-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_modulation_is_finite [hPre_modulation_is_finite : Cert.Pre_modulation_is_finite.Facts] (m : (ℓ : Loc Cert.KernelIdeal.nD Cert.KernelIdeal.τ Cert.KernelIdeal.sig) → Buf (Elt Ideal) ℓ) : Prop :=
  ∀ c : Dev Cert.KernelIdeal.nD,
    (Cert.Pre_modulation_is_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_modulation_is_finite [hPre_modulation_is_finite : Cert.Pre_modulation_is_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_modulation_is_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_modulation_is_finite [hKernelIdeal : Cert.KernelIdeal.Facts] [hPre_modulation_is_finite : Cert.Pre_modulation_is_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_modulation_is_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_modulation_is_finite [hReferenceIdeal : Cert.ReferenceIdeal.Facts] [hPre_modulation_is_finite : Cert.Pre_modulation_is_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_modulation_is_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_modulation_is_finite [hKernelIdeal : Cert.KernelIdeal.Facts] [hReferenceIdeal : Cert.ReferenceIdeal.Facts] [hPre_modulation_is_finite : Cert.Pre_modulation_is_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_modulation_is_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_modulation_is_finite : Cert.Pre_modulation_is_finite.Facts),
    quiescent_Kernel (hKernel := hKernel)
    ∧ quiescent_KernelIdeal (hKernelIdeal := hKernelIdeal)
    ∧ quiescent_KernelIdeal_pre_modulation_is_finite (hKernelIdeal := hKernelIdeal) (hPre_modulation_is_finite := hPre_modulation_is_finite)
    ∧ quiescent_ReferenceIdeal (hReferenceIdeal := hReferenceIdeal)
    ∧ quiescent_ReferenceIdeal_pre_modulation_is_finite (hReferenceIdeal := hReferenceIdeal) (hPre_modulation_is_finite := hPre_modulation_is_finite)
    ∧ preserves_Kernel_KernelIdeal
    ∧ algebraic_KernelIdeal_ReferenceIdeal_pre_modulation_is_finite (hKernelIdeal := hKernelIdeal) (hReferenceIdeal := hReferenceIdeal) (hPre_modulation_is_finite := hPre_modulation_is_finite)
-- ==== Pre_modulation_is_finite.lean ====
abbrev S12x3072x1536 : Shape := ⟨3, ![12, 3072, 1536]⟩
abbrev S12x1536 : Shape := ⟨2, ![12, 1536]⟩
abbrev S1536x64 : Shape := ⟨2, ![1536, 64]⟩
abbrev S64 : Shape := ⟨1, ![64]⟩
abbrev S6 : Shape := ⟨1, ![6]⟩
abbrev S6x16x96x128 : Shape := ⟨4, ![6, 16, 96, 128]⟩
abbrev S_ : Shape := ⟨0, ![]⟩

class Facts : Prop where
  bcast_S_S12x1536 : S_.BroadcastsInDim S12x1536 (![] : Fin 0 → Fin S12x1536.rank)

variable [Facts]

def fn {F : FTy → Type} [FloatOps F] (main_arg0 : FVec F S12x3072x1536 .bf16) (main_arg1 : FVec F S12x1536 .f32) (main_arg2 : FVec F S12x1536 .f32) (main_arg3 : FVec F S1536x64 .fp8e4m3) (main_arg4 : FVec F S64 .f32) (main_arg5 : FVec F S64 .f32) (main_arg6 : FVec F S6 .f32) (main_arg7 : FVec F S6 .f32) (main_arg8 : FVec F S6 .f32) (main_arg9 : FVec F S6x16x96x128 .f32) : IVec S12x1536 1 :=
  let main_v0 : FVec F S12x1536 .f32 := Host.absf main_arg1
  let main_cst : FVec F S_ .f32 := constant S_ .f32 0x7F7FFFFF#32
  let main_v1 : FVec F S12x1536 .f32 := broadcastInDim S12x1536 ![] bcast_S_S12x1536 main_cst
  let main_v2 : IVec S12x1536 1 := cmpf .ole main_v0 main_v1
  let main_v3 : FVec F S12x1536 .f32 := Host.absf main_arg2
  let main_cst_0 : FVec F S_ .f32 := constant S_ .f32 0x7F7FFFFF#32
  let main_v4 : FVec F S12x1536 .f32 := broadcastInDim S12x1536 ![] bcast_S_S12x1536 main_cst_0
  let main_v5 : IVec S12x1536 1 := cmpf .ole main_v3 main_v4
  let main_v6 : IVec S12x1536 1 := andi main_v2 main_v5
  main_v6
-- ==== Kernel.lean ====
abbrev S12x3072x1536 : Shape := ⟨3, ![12, 3072, 1536]⟩
abbrev S12x1536 : Shape := ⟨2, ![12, 1536]⟩
abbrev S1536x64 : Shape := ⟨2, ![1536, 64]⟩
abbrev S64 : Shape := ⟨1, ![64]⟩
abbrev S6 : Shape := ⟨1, ![6]⟩
abbrev S6x16x96x128 : Shape := ⟨4, ![6, 16, 96, 128]⟩
abbrev S2x6x3072x1536 : Shape := ⟨4, ![2, 6, 3072, 1536]⟩
abbrev S1x64 : Shape := ⟨2, ![1, 64]⟩
abbrev S12x3072 : Shape := ⟨2, ![12, 3072]⟩
abbrev S2x1x512x1536 : Shape := ⟨4, ![2, 1, 512, 1536]⟩
abbrev S1x16x16x128 : Shape := ⟨4, ![1, 16, 16, 128]⟩
abbrev S64x1536 : Shape := ⟨2, ![64, 1536]⟩
abbrev S512x128 : Shape := ⟨2, ![512, 128]⟩
abbrev S16x16x128 : Shape := ⟨3, ![16, 16, 128]⟩
abbrev S1x1536 : Shape := ⟨2, ![1, 1536]⟩
abbrev S1x1x64x1536 : Shape := ⟨4, ![1, 1, 64, 1536]⟩
abbrev S64x1 : Shape := ⟨2, ![64, 1]⟩
abbrev S64x128 : Shape := ⟨2, ![64, 128]⟩
abbrev S128x128 : Shape := ⟨2, ![128, 128]⟩
abbrev S1x128 : Shape := ⟨2, ![1, 128]⟩
abbrev S1x512 : Shape := ⟨2, ![1, 512]⟩
abbrev S1x1x512x1536 : Shape := ⟨4, ![1, 1, 512, 1536]⟩
abbrev S512x1536 : Shape := ⟨2, ![512, 1536]⟩
abbrev S64x512 : Shape := ⟨2, ![64, 512]⟩
abbrev S1 : Shape := ⟨1, ![1]⟩
abbrev S16x128 : Shape := ⟨2, ![16, 128]⟩
abbrev S16x128x1 : Shape := ⟨3, ![16, 128, 1]⟩
abbrev S16x1x128 : Shape := ⟨3, ![16, 1, 128]⟩

abbrev nBuf : Space → Nat
  | .hbm => 17
  | .vmem => 19
  | .smem => 3
  | _ => 0

abbrev bufTy : (tb : Table) → Fin (tcTables nBuf tb) → BufTy
  | .hbm, ⟨0, _⟩ => ⟨S12x3072x1536, .bf16⟩
  | .hbm, ⟨1, _⟩ => ⟨S12x1536, .f32⟩
  | .hbm, ⟨2, _⟩ => ⟨S12x1536, .f32⟩
  | .hbm, ⟨3, _⟩ => ⟨S1536x64, .fp8e4m3⟩
  | .hbm, ⟨4, _⟩ => ⟨S64, .f32⟩
  | .hbm, ⟨5, _⟩ => ⟨S64, .f32⟩
  | .hbm, ⟨6, _⟩ => ⟨S6, .f32⟩
  | .hbm, ⟨7, _⟩ => ⟨S6, .f32⟩
  | .hbm, ⟨8, _⟩ => ⟨S6, .f32⟩
  | .hbm, ⟨9, _⟩ => ⟨S6x16x96x128, .f32⟩
  | .hbm, ⟨10, _⟩ => ⟨S2x6x3072x1536, .bf16⟩
  | .hbm, ⟨11, _⟩ => ⟨S1x64, .f32⟩
  | .hbm, ⟨12, _⟩ => ⟨S1x64, .f32⟩
  | .hbm, ⟨13, _⟩ => ⟨S6x16x96x128, .f32⟩
  | .hbm, ⟨14, _⟩ => ⟨S6x16x96x128, .bf16⟩
  | .hbm, ⟨15, _⟩ => ⟨S2x6x3072x1536, .fp8e4m3⟩
  | .hbm, ⟨16, _⟩ => ⟨S12x3072, .f32⟩
  | .local _ .vmem, ⟨0, _⟩ => ⟨S2x1x512x1536, .bf16⟩
  | .local _ .vmem, ⟨1, _⟩ => ⟨S2x1x512x1536, .bf16⟩
  | .local _ .vmem, ⟨2, _⟩ => ⟨S12x1536, .f32⟩
  | .local _ .vmem, ⟨3, _⟩ => ⟨S12x1536, .f32⟩
  | .local _ .vmem, ⟨4, _⟩ => ⟨S1536x64, .fp8e4m3⟩
  | .local _ .vmem, ⟨5, _⟩ => ⟨S1x64, .f32⟩
  | .local _ .vmem, ⟨6, _⟩ => ⟨S1x64, .f32⟩
  | .local _ .vmem, ⟨7, _⟩ => ⟨S1x16x16x128, .f32⟩
  | .local _ .vmem, ⟨8, _⟩ => ⟨S1x16x16x128, .f32⟩
  | .local _ .vmem, ⟨9, _⟩ => ⟨S1x16x16x128, .f32⟩
  | .local _ .vmem, ⟨10, _⟩ => ⟨S1x16x16x128, .f32⟩
  | .local _ .vmem, ⟨11, _⟩ => ⟨S1x16x16x128, .bf16⟩
  | .local _ .vmem, ⟨12, _⟩ => ⟨S1x16x16x128, .bf16⟩
  | .local _ .vmem, ⟨13, _⟩ => ⟨S2x1x512x1536, .fp8e4m3⟩
  | .local _ .vmem, ⟨14, _⟩ => ⟨S2x1x512x1536, .fp8e4m3⟩
  | .local _ .vmem, ⟨15, _⟩ => ⟨S12x3072, .f32⟩
  | .local _ .vmem, ⟨16, _⟩ => ⟨S64x1536, .fp8e4m3⟩
  | .local _ .vmem, ⟨17, _⟩ => ⟨S512x128, .f32⟩
  | .local _ .vmem, ⟨18, _⟩ => ⟨S16x16x128, .f32⟩
  | .local _ .smem, ⟨0, _⟩ => ⟨S6, .f32⟩
  | .local _ .smem, ⟨1, _⟩ => ⟨S6, .f32⟩
  | .local _ .smem, ⟨2, _⟩ => ⟨S6, .f32⟩
  | _, _ => ⟨S12x3072x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v3_2 : Ref sig .tc := ⟨.hbm, 15, rfl⟩
abbrev main_v3_3 : Ref sig .tc := ⟨.hbm, 16, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg9_1 : Ref sig .tc := ⟨.vmem, 8, rfl⟩
abbrev cc0_stg10_0 : Ref sig .tc := ⟨.vmem, 9, rfl⟩
abbrev cc0_stg10_1 : Ref sig .tc := ⟨.vmem, 10, rfl⟩
abbrev cc0_stg11_0 : Ref sig .tc := ⟨.vmem, 11, rfl⟩
abbrev cc0_stg11_1 : Ref sig .tc := ⟨.vmem, 12, rfl⟩
abbrev cc0_stg12_0 : Ref sig .tc := ⟨.vmem, 13, rfl⟩
abbrev cc0_stg12_1 : Ref sig .tc := ⟨.vmem, 14, rfl⟩
abbrev cc0_stg13_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc0_sem11_0 : DmaSem sig := 14
abbrev cc0_sem11_1 : DmaSem sig := 15
abbrev cc0_sem12_0 : DmaSem sig := 16
abbrev cc0_sem12_1 : DmaSem sig := 17
abbrev cc0_sem13_0 : DmaSem sig := 18

abbrev nD : Nat := 1
abbrev τ : Topo := Topo.v7x

variable {F : FTy → Type} [FloatOps F]

abbrev grid0 : Pipeline.Grid := ⟨2, ![6, 6], ![false, false]⟩

def k0_off1 (i : grid0.Coords) (c0_i32_2 : BitVec 32) : Fin 2 → Nat :=
  let arg0 : BitVec 32 := BitVec.ofNat 32 (i 0).val
  let v5 : BitVec 32 := Scalar.addi arg0 c0_i32_2
  let v6 : Index := Scalar.indexCast v5
  let c0 : Index := 0#32
  ![v6.toNat, 0]
@[reducible] def k0_t1_loop : Scf.Loop 32 :=
  let c0_i32_4 : BitVec 32 := 0#32
  let c8_i32 : BitVec 32 := 8#32
  let v12 : BitVec 32 := Scalar.addi c0_i32_4 c8_i32
  let c1_i32 : BitVec 32 := 1#32
  ⟨c0_i32_4, v12, c1_i32⟩
def k0_mult1 (k0_t1 : Fin k0_t1_loop.trips) : BitVec 32 :=
  let c0_i32_4 : BitVec 32 := 0#32
  let c1_i32 : BitVec 32 := 1#32
  let arg19 : BitVec 32 := Scf.iv c0_i32_4 c1_i32 k0_t1
  let c64_i32_224 : BitVec 32 := 64#32
  let v686 : BitVec 32 := Scalar.muli arg19 c64_i32_224
  v686
def k0_off2 (k0_t1 : Fin k0_t1_loop.trips) : Fin 4 → Nat :=
  let c0_225 : Index := 0#32
  let c0_226 : Index := 0#32
  let c0_i32_4 : BitVec 32 := 0#32
  let c1_i32 : BitVec 32 := 1#32
  let arg19 : BitVec 32 := Scf.iv c0_i32_4 c1_i32 k0_t1
  let c64_i32_224 : BitVec 32 := 64#32
  let v686 : BitVec 32 := Scalar.muli arg19 c64_i32_224
  let v687 : BitVec 32 := v686
  let v688 : Index := Scalar.indexCast v687
  let c0_227 : Index := 0#32
  ![0, 0, v688.toNat, 0]
def k0_off3 (k0_t1 : Fin k0_t1_loop.trips) : Fin 2 → Nat :=
  let c0_i32_4 : BitVec 32 := 0#32
  let c1_i32 : BitVec 32 := 1#32
  let arg19 : BitVec 32 := Scf.iv c0_i32_4 c1_i32 k0_t1
  let c64_i32_224 : BitVec 32 := 64#32
  let v686 : BitVec 32 := Scalar.muli arg19 c64_i32_224
  let v687 : BitVec 32 := v686
  let v789 : Index := Scalar.indexCast v687
  let c0_246 : Index := 0#32
  ![v789.toNat, 0]
def k0_mult2 (i : grid0.Coords) : BitVec 32 :=
  let arg1 : BitVec 32 := BitVec.ofNat 32 (i 1).val
  let c512_i32 : BitVec 32 := 512#32
  let v26 : BitVec 32 := Scalar.muli arg1 c512_i32
  v26
def k0_off4 (i : grid0.Coords) (c0_i32_2 : BitVec 32) : Fin 2 → Nat :=
  let arg0 : BitVec 32 := BitVec.ofNat 32 (i 0).val
  let v5 : BitVec 32 := Scalar.addi arg0 c0_i32_2
  let v28 : Index := Scalar.indexCast v5
  let arg1 : BitVec 32 := BitVec.ofNat 32 (i 1).val
  let c512_i32 : BitVec 32 := 512#32
  let v26 : BitVec 32 := Scalar.muli arg1 c512_i32
  let v27 : BitVec 32 := v26
  let v29 : Index := Scalar.indexCast v27
  ![v28.toNat, v29.toNat]
@[reducible] def k0_t2_loop : Scf.Loop 32 :=
  let c0_i32_25 : BitVec 32 := 0#32
  let c8_i32_26 : BitVec 32 := 8#32
  let v54 : BitVec 32 := Scalar.addi c0_i32_25 c8_i32_26
  let c1_i32_27 : BitVec 32 := 1#32
  ⟨c0_i32_25, v54, c1_i32_27⟩
def k0_mult3 (k0_t2 : Fin k0_t2_loop.trips) : BitVec 32 :=
  let c0_i32_25 : BitVec 32 := 0#32
  let c1_i32_27 : BitVec 32 := 1#32
  let arg19 : BitVec 32 := Scf.iv c0_i32_25 c1_i32_27 k0_t2
  let c64_i32_224 : BitVec 32 := 64#32
  let v686 : BitVec 32 := Scalar.muli arg19 c64_i32_224
  v686
def k0_off5 (k0_t2 : Fin k0_t2_loop.trips) : Fin 4 → Nat :=
  let c1_225 : Index := 1#32
  let c0_226 : Index := 0#32
  let c0_i32_25 : BitVec 32 := 0#32
  let c1_i32_27 : BitVec 32 := 1#32
  let arg19 : BitVec 32 := Scf.iv c0_i32_25 c1_i32_27 k0_t2
  let c64_i32_224 : BitVec 32 := 64#32
  let v686 : BitVec 32 := Scalar.muli arg19 c64_i32_224
  let v687 : BitVec 32 := v686
  let v688 : Index := Scalar.indexCast v687
  let c0_227 : Index := 0#32
  ![1, 0, v688.toNat, 0]
def k0_off6 (k0_t2 : Fin k0_t2_loop.trips) : Fin 2 → Nat :=
  let c0_i32_25 : BitVec 32 := 0#32
  let c1_i32_27 : BitVec 32 := 1#32
  let arg19 : BitVec 32 := Scf.iv c0_i32_25 c1_i32_27 k0_t2
  let c64_i32_224 : BitVec 32 := 64#32
  let v686 : BitVec 32 := Scalar.muli arg19 c64_i32_224
  let v687 : BitVec 32 := v686
  let v789 : Index := Scalar.indexCast v687
  let c0_246 : Index := 0#32
  ![v789.toNat, 0]
def k0_mult4 (i : grid0.Coords) : BitVec 32 :=
  let arg1 : BitVec 32 := BitVec.ofNat 32 (i 1).val
  let c512_i32_37 : BitVec 32 := 512#32
  let v68 : BitVec 32 := Scalar.muli arg1 c512_i32_37
  v68
def k0_off7 (i : grid0.Coords) : Fin 1 → Nat :=
  let arg0 : BitVec 32 := BitVec.ofNat 32 (i 0).val
  let v89 : Index := Scalar.indexCast arg0
  ![v89.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S6 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2x1x512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S12x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S12x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1536x64 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x16x16x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x16x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x16x16x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x1x512x1536 .fp8e4m3 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 1 → Memref sig .tc .vmem S12x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]
-- ==== ReferenceIdeal.lean ====
abbrev S12x3072x1536 : Shape := ⟨3, ![12, 3072, 1536]⟩
abbrev S12x1536 : Shape := ⟨2, ![12, 1536]⟩
abbrev S1536x64 : Shape := ⟨2, ![1536, 64]⟩
abbrev S64 : Shape := ⟨1, ![64]⟩
abbrev S6 : Shape := ⟨1, ![6]⟩
abbrev S6x16x96x128 : Shape := ⟨4, ![6, 16, 96, 128]⟩
abbrev S2x6x3072x1536 : Shape := ⟨4, ![2, 6, 3072, 1536]⟩
abbrev S12x3072 : Shape := ⟨2, ![12, 3072]⟩
abbrev S12x3072x1 : Shape := ⟨3, ![12, 3072, 1]⟩
abbrev S12x1x1536 : Shape := ⟨3, ![12, 1, 1536]⟩
abbrev S12x3072x64 : Shape := ⟨3, ![12, 3072, 64]⟩
abbrev S1x1x64 : Shape := ⟨3, ![1, 1, 64]⟩
abbrev S6x3072x64 : Shape := ⟨3, ![6, 3072, 64]⟩
abbrev S6x1x1 : Shape := ⟨3, ![6, 1, 1]⟩
abbrev S6x48x64x2x2x16 : Shape := ⟨6, ![6, 48, 64, 2, 2, 16]⟩
abbrev S6x16x48x2x64x2 : Shape := ⟨6, ![6, 16, 48, 2, 64, 2]⟩
abbrev S6x1x1x1 : Shape := ⟨4, ![6, 1, 1, 1]⟩

abbrev nBuf : Space → Nat
  | .hbm => 14
  | .vmem => 14
  | .smem => 0
  | _ => 0

abbrev bufTy : (tb : Table) → Fin (tcTables nBuf tb) → BufTy
  | .hbm, ⟨0, _⟩ => ⟨S12x3072x1536, .bf16⟩
  | .hbm, ⟨1, _⟩ => ⟨S12x1536, .f32⟩
  | .hbm, ⟨2, _⟩ => ⟨S12x1536, .f32⟩
  | .hbm, ⟨3, _⟩ => ⟨S1536x64, .fp8e4m3⟩
  | .hbm, ⟨4, _⟩ => ⟨S64, .f32⟩
  | .hbm, ⟨5, _⟩ => ⟨S64, .f32⟩
  | .hbm, ⟨6, _⟩ => ⟨S6, .f32⟩
  | .hbm, ⟨7, _⟩ => ⟨S6, .f32⟩
  | .hbm, ⟨8, _⟩ => ⟨S6, .f32⟩
  | .hbm, ⟨9, _⟩ => ⟨S6x16x96x128, .f32⟩
  | .hbm, ⟨10, _⟩ => ⟨S6x16x96x128, .f32⟩
  | .hbm, ⟨11, _⟩ => ⟨S6x16x96x128, .bf16⟩
  | .hbm, ⟨12, _⟩ => ⟨S2x6x3072x1536, .fp8e4m3⟩
  | .hbm, ⟨13, _⟩ => ⟨S12x3072, .f32⟩
  | .local _ .vmem, ⟨0, _⟩ => ⟨S12x3072x1536, .bf16⟩
  | .local _ .vmem, ⟨1, _⟩ => ⟨S12x1536, .f32⟩
  | .local _ .vmem, ⟨2, _⟩ => ⟨S12x1536, .f32⟩
  | .local _ .vmem, ⟨3, _⟩ => ⟨S1536x64, .fp8e4m3⟩
  | .local _ .vmem, ⟨4, _⟩ => ⟨S64, .f32⟩
  | .local _ .vmem, ⟨5, _⟩ => ⟨S64, .f32⟩
  | .local _ .vmem, ⟨6, _⟩ => ⟨S6, .f32⟩
  | .local _ .vmem, ⟨7, _⟩ => ⟨S6, .f32⟩
  | .local _ .vmem, ⟨8, _⟩ => ⟨S6, .f32⟩
  | .local _ .vmem, ⟨9, _⟩ => ⟨S6x16x96x128, .f32⟩
  | .local _ .vmem, ⟨10, _⟩ => ⟨S6x16x96x128, .f32⟩
  | .local _ .vmem, ⟨11, _⟩ => ⟨S6x16x96x128, .bf16⟩
  | .local _ .vmem, ⟨12, _⟩ => ⟨S2x6x3072x1536, .fp8e4m3⟩
  | .local _ .vmem, ⟨13, _⟩ => ⟨S12x3072, .f32⟩
  | _, _ => ⟨S12x3072x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S12x3072x1536 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S12x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x64 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S6 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S6x16x96x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S6x16x96x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S6x16x96x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x6x3072x1536 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S12x3072 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.KRunKit.lean ====
/- What the runs of the kernel's body share, at the bits. -/
module

public import proofs.«01_k».proof.Proof.Gen.Kernel.Frame
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 6 % 6 := Pipeline.Grid.coords_val t 0 (by decide) rfl
    have e1 : (grid0.coords t 1).val = t.val / 1 % 6 := Pipeline.Grid.coords_val t 1 (by decide) rfl
    simp only [cond0_0, e0, e1]
    word_cmp
   : ∀ t : Fin grid0.N, cond0_0 (grid0.coords t) ↔ t.val % 36 = 0)

/-! ## The kernel body on any staging memrefs: a subtype the run finds -/

/-- Each window's current staging memref at point `t`, spelled as the pipeline passes it (`bodyAt0`), and its wholeness. -/
abbrev ms0_0 (t : Fin cfg0.N) : Memref sig .tc .smem S6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S6 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S6 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1x512x1536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S12x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x64 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16x16x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x16x16x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x16x16x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x1x512x1536 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S12x3072 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S64x1536 .fp8e4m3 := Memref.whole cc0_scratch0
abbrev scM0_1 : Memref sig .tc .vmem S512x128 .f32 := Memref.whole cc0_scratch1
abbrev scM0_2 : Memref sig .tc .vmem S16x16x128 .f32 := Memref.whole cc0_scratch2
/-- The scratch `arg16` the kernel carries between points, as a view: what it holds is stated through it. -/
abbrev VS0_0 : View sig .tc .vmem S64x1536 .fp8e4m3 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KRunA.lean ====
/- The kernel's body, run once, at the bits: every access in bounds, the inputs left as they were. -/
module

public import proofs.«01_k».proof.Proof.KRunKit

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11, 12, 13) at anything, handed back at some contents nothing names. -/
noncomputable def kernelRun0_A (c : Dev nD) (i : grid0.Coords) (arg2 : Memref sig .tc .smem S6 .f32) (harg2 : arg2.IsWhole) (arg3 : Memref sig .tc .smem S6 .f32) (harg3 : arg3.IsWhole) (arg4 : Memref sig .tc .smem S6 .f32) (harg4 : arg4.IsWhole) (arg5 : Memref sig .tc .vmem S2x1x512x1536 .bf16) (harg5 : arg5.IsWhole) (arg6 : Memref sig .tc .vmem S12x1536 .f32) (harg6 : arg6.IsWhole) (arg7 : Memref sig .tc .vmem S12x1536 .f32) (harg7 : arg7.IsWhole) (arg8 : Memref sig .tc .vmem S1536x64 .fp8e4m3) (harg8 : arg8.IsWhole) (arg9 : Memref sig .tc .vmem S1x64 .f32) (harg9 : arg9.IsWhole) (arg10 : Memref sig .tc .vmem S1x64 .f32) (harg10 : arg10.IsWhole) (arg11 : Memref sig .tc .vmem S1x16x16x128 .f32) (harg11 : arg11.IsWhole) (arg12 : Memref sig .tc .vmem S1x16x16x128 .f32) (harg12 : arg12.IsWhole) (arg13 : Memref sig .tc .vmem S1x16x16x128 .bf16) (harg13 : arg13.IsWhole) (arg14 : Memref sig .tc .vmem S2x1x512x1536 .fp8e4m3) (harg14 : arg14.IsWhole) (arg15 : Memref sig .tc .vmem S12x3072 .f32) (harg15 : arg15.IsWhole) (arg16 : Memref sig .tc .vmem S64x1536 .fp8e4m3) (harg16 : arg16.IsWhole) (arg17 : Memref sig .tc .vmem S512x128 .f32) (harg17 : arg17.IsWhole) (arg18 : Memref sig .tc .vmem S16x16x128 .f32) (harg18 : arg18.IsWhole) (hc0 : cond0_0 i)
    (x0 : Vec F S6 .f32) (x1 : Vec F S6 .f32) (x2 : Vec F S6 .f32) (x3 : Vec F S2x1x512x1536 .bf16) (x4 : Vec F S12x1536 .f32) (x5 : Vec F S12x1536 .f32) (x6 : Vec F S1536x64 .fp8e4m3) (x7 : Vec F S1x64 .f32) (x8 : Vec F S1x64 .f32) (x9 : Vec F S1x16x16x128 .f32) :
    { LS0 : List (View.Piece (Elt F) S64x1536 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ f, arg16.view.loc (c : Thread nD τ) ↦[arg16.view.set]{fullShare} arg16.view.writes (Elt F) f LS0) ∗ (∃ d, owns (c : Thread nD τ) arg17 fullShare d) ∗ (∃ d, owns (c : Thread nD τ) arg18 fullShare d)) -∗ K ⟨⟩))
          ⊢ wp frame (wpE (defs₀ (F := F)) Variants.none c none) E (cc0_dit_final i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, fun E K => ?run⟩
  case run =>
    simp only [cc0_dit_final_eq_skeleton]; unfold cc0_dit_final_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]; · iexists _; iexact HS0
    isplitl [HS1]
    · iexists _, _; isplitr; swap; · iexact HS1
      ipureintro; rfl
    iexists _, _; isplitr; swap; · iexact HS2
    ipureintro; rfl

end Cert.Kernel.Gen

end
-- ==== Proof.KRunB.lean ====
/- The kernel's body, run once, at the bits: every access in bounds, the inputs left as they were. -/
module

public import proofs.«01_k».proof.Proof.KRunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken: points 1, 2, … 35: 35 of 36), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11, 12, 13) at anything, handed back at some contents nothing names. -/
noncomputable def kernelRun0_B (c : Dev nD) (i : grid0.Coords) (arg2 : Memref sig .tc .smem S6 .f32) (harg2 : arg2.IsWhole) (arg3 : Memref sig .tc .smem S6 .f32) (harg3 : arg3.IsWhole) (arg4 : Memref sig .tc .smem S6 .f32) (harg4 : arg4.IsWhole) (arg5 : Memref sig .tc .vmem S2x1x512x1536 .bf16) (harg5 : arg5.IsWhole) (arg6 : Memref sig .tc .vmem S12x1536 .f32) (harg6 : arg6.IsWhole) (arg7 : Memref sig .tc .vmem S12x1536 .f32) (harg7 : arg7.IsWhole) (arg8 : Memref sig .tc .vmem S1536x64 .fp8e4m3) (harg8 : arg8.IsWhole) (arg9 : Memref sig .tc .vmem S1x64 .f32) (harg9 : arg9.IsWhole) (arg10 : Memref sig .tc .vmem S1x64 .f32) (harg10 : arg10.IsWhole) (arg11 : Memref sig .tc .vmem S1x16x16x128 .f32) (harg11 : arg11.IsWhole) (arg12 : Memref sig .tc .vmem S1x16x16x128 .f32) (harg12 : arg12.IsWhole) (arg13 : Memref sig .tc .vmem S1x16x16x128 .bf16) (harg13 : arg13.IsWhole) (arg14 : Memref sig .tc .vmem S2x1x512x1536 .fp8e4m3) (harg14 : arg14.IsWhole) (arg15 : Memref sig .tc .vmem S12x3072 .f32) (harg15 : arg15.IsWhole) (arg16 : Memref sig .tc .vmem S64x1536 .fp8e4m3) (harg16 : arg16.IsWhole) (arg17 : Memref sig .tc .vmem S512x128 .f32) (harg17 : arg17.IsWhole) (arg18 : Memref sig .tc .vmem S16x16x128 .f32) (harg18 : arg18.IsWhole) (hc0 : ¬cond0_0 i)
    (x0 : Vec F S6 .f32) (x1 : Vec F S6 .f32) (x2 : Vec F S6 .f32) (x3 : Vec F S2x1x512x1536 .bf16) (x4 : Vec F S12x1536 .f32) (x5 : Vec F S12x1536 .f32) (x6 : Vec F S1536x64 .fp8e4m3) (x7 : Vec F S1x64 .f32) (x8 : Vec F S1x64 .f32) (x9 : Vec F S1x16x16x128 .f32) (xs0 : Vec F S64x1536 .fp8e4m3) :
    { LS0 : List (View.Piece (Elt F) S64x1536 .fp8e4m3) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare xs0 ∗ (∃ d, owns (c : Thread nD τ) arg17 fullShare d) ∗ (∃ d, owns (c : Thread nD τ) arg18 fullShare d)) -∗ K ⟨⟩))
          ⊢ wp frame (wpE (defs₀ (F := F)) Variants.none c none) E (cc0_dit_final i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨[], fun E K => ?run⟩
  case run =>
    simp only [cc0_dit_final_eq_skeleton]; unfold cc0_dit_final_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%fs0, %hfs0, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg16.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [H13]
    · iexists _, _; isplitr; swap; · iexact H13
      ipureintro; rfl
    isplitl [HS0]
    · iexists _; isplitr; · ipureintro; exact harg16.read_unread _
      iexact HS0
    isplitl [HS1]
    · iexists _, _; isplitr; swap; · iexact HS1
      ipureintro; rfl
    iexists _, _; isplitr; swap; · iexact HS2
    ipureintro; rfl

end Cert.Kernel.Gen

end
-- ==== Proof.KFrame.lean ====
/- The kernel's launch at the bits: it ends, its arguments unchanged, every semaphore at zero. -/
module

public import proofs.«01_k».proof.Proof.KRunB
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg16`, which the kernel carries between points, cover it: 1 piece of `S64x1536` tiling it (Lib/Ring.lean `Piece.tiledL`). -/
theorem scover0_A_0 (c : Dev nD) (i : grid0.Coords) (arg2 : Memref sig .tc .smem S6 .f32) (harg2 : arg2.IsWhole) (arg3 : Memref sig .tc .smem S6 .f32) (harg3 : arg3.IsWhole) (arg4 : Memref sig .tc .smem S6 .f32) (harg4 : arg4.IsWhole) (arg5 : Memref sig .tc .vmem S2x1x512x1536 .bf16) (harg5 : arg5.IsWhole) (arg6 : Memref sig .tc .vmem S12x1536 .f32) (harg6 : arg6.IsWhole) (arg7 : Memref sig .tc .vmem S12x1536 .f32) (harg7 : arg7.IsWhole) (arg8 : Memref sig .tc .vmem S1536x64 .fp8e4m3) (harg8 : arg8.IsWhole) (arg9 : Memref sig .tc .vmem S1x64 .f32) (harg9 : arg9.IsWhole) (arg10 : Memref sig .tc .vmem S1x64 .f32) (harg10 : arg10.IsWhole) (arg11 : Memref sig .tc .vmem S1x16x16x128 .f32) (harg11 : arg11.IsWhole) (arg12 : Memref sig .tc .vmem S1x16x16x128 .f32) (harg12 : arg12.IsWhole) (arg13 : Memref sig .tc .vmem S1x16x16x128 .bf16) (harg13 : arg13.IsWhole) (arg14 : Memref sig .tc .vmem S2x1x512x1536 .fp8e4m3) (harg14 : arg14.IsWhole) (arg15 : Memref sig .tc .vmem S12x3072 .f32) (harg15 : arg15.IsWhole) (arg16 : Memref sig .tc .vmem S64x1536 .fp8e4m3) (harg16 : arg16.IsWhole) (arg17 : Memref sig .tc .vmem S512x128 .f32) (harg17 : arg17.IsWhole) (arg18 : Memref sig .tc .vmem S16x16x128 .f32) (harg18 : arg18.IsWhole) (hc0 : cond0_0 i)
    (x0 : Vec F S6 .f32) (x1 : Vec F S6 .f32) (x2 : Vec F S6 .f32) (x3 : Vec F S2x1x512x1536 .bf16) (x4 : Vec F S12x1536 .f32) (x5 : Vec F S12x1536 .f32) (x6 : Vec F S1536x64 .fp8e4m3) (x7 : Vec F S1x64 .f32) (x8 : Vec F S1x64 .f32) (x9 : Vec F S1x16x16x128 .f32) (y : S64x1536.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).1 S64x1536.size (by sl_kernel_rfl) y

/-- What case A leaves in scratch `arg16`: its pieces read back over junk. -/
def sout0_A_0 (c : Dev nD) (i : grid0.Coords) (arg2 : Memref sig .tc .smem S6 .f32) (harg2 : arg2.IsWhole) (arg3 : Memref sig .tc .smem S6 .f32) (harg3 : arg3.IsWhole) (arg4 : Memref sig .tc .smem S6 .f32) (harg4 : arg4.IsWhole) (arg5 : Memref sig .tc .vmem S2x1x512x1536 .bf16) (harg5 : arg5.IsWhole) (arg6 : Memref sig .tc .vmem S12x1536 .f32) (harg6 : arg6.IsWhole) (arg7 : Memref sig .tc .vmem S12x1536 .f32) (harg7 : arg7.IsWhole) (arg8 : Memref sig .tc .vmem S1536x64 .fp8e4m3) (harg8 : arg8.IsWhole) (arg9 : Memref sig .tc .vmem S1x64 .f32) (harg9 : arg9.IsWhole) (arg10 : Memref sig .tc .vmem S1x64 .f32) (harg10 : arg10.IsWhole) (arg11 : Memref sig .tc .vmem S1x16x16x128 .f32) (harg11 : arg11.IsWhole) (arg12 : Memref sig .tc .vmem S1x16x16x128 .f32) (harg12 : arg12.IsWhole) (arg13 : Memref sig .tc .vmem S1x16x16x128 .bf16) (harg13 : arg13.IsWhole) (arg14 : Memref sig .tc .vmem S2x1x512x1536 .fp8e4m3) (harg14 : arg14.IsWhole) (arg15 : Memref sig .tc .vmem S12x3072 .f32) (harg15 : arg15.IsWhole) (arg16 : Memref sig .tc .vmem S64x1536 .fp8e4m3) (harg16 : arg16.IsWhole) (arg17 : Memref sig .tc .vmem S512x128 .f32) (harg17 : arg17.IsWhole) (arg18 : Memref sig .tc .vmem S16x16x128 .f32) (harg18 : arg18.IsWhole) (hc0 : cond0_0 i)
    (x0 : Vec F S6 .f32) (x1 : Vec F S6 .f32) (x2 : Vec F S6 .f32) (x3 : Vec F S2x1x512x1536 .bf16) (x4 : Vec F S12x1536 .f32) (x5 : Vec F S12x1536 .f32) (x6 : Vec F S1536x64 .fp8e4m3) (x7 : Vec F S1x64 .f32) (x8 : Vec F S1x64 .f32) (x9 : Vec F S1x16x16x128 .f32) : Vec F S64x1536 .fp8e4m3 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9).1)

/-- Case B stores nothing into scratch `arg16`: it holds what the point before left. -/
def sout0_B_0 (c : Dev nD) (i : grid0.Coords) (arg2 : Memref sig .tc .smem S6 .f32) (harg2 : arg2.IsWhole) (arg3 : Memref sig .tc .smem S6 .f32) (harg3 : arg3.IsWhole) (arg4 : Memref sig .tc .smem S6 .f32) (harg4 : arg4.IsWhole) (arg5 : Memref sig .tc .vmem S2x1x512x1536 .bf16) (harg5 : arg5.IsWhole) (arg6 : Memref sig .tc .vmem S12x1536 .f32) (harg6 : arg6.IsWhole) (arg7 : Memref sig .tc .vmem S12x1536 .f32) (harg7 : arg7.IsWhole) (arg8 : Memref sig .tc .vmem S1536x64 .fp8e4m3) (harg8 : arg8.IsWhole) (arg9 : Memref sig .tc .vmem S1x64 .f32) (harg9 : arg9.IsWhole) (arg10 : Memref sig .tc .vmem S1x64 .f32) (harg10 : arg10.IsWhole) (arg11 : Memref sig .tc .vmem S1x16x16x128 .f32) (harg11 : arg11.IsWhole) (arg12 : Memref sig .tc .vmem S1x16x16x128 .f32) (harg12 : arg12.IsWhole) (arg13 : Memref sig .tc .vmem S1x16x16x128 .bf16) (harg13 : arg13.IsWhole) (arg14 : Memref sig .tc .vmem S2x1x512x1536 .fp8e4m3) (harg14 : arg14.IsWhole) (arg15 : Memref sig .tc .vmem S12x3072 .f32) (harg15 : arg15.IsWhole) (arg16 : Memref sig .tc .vmem S64x1536 .fp8e4m3) (harg16 : arg16.IsWhole) (arg17 : Memref sig .tc .vmem S512x128 .f32) (harg17 : arg17.IsWhole) (arg18 : Memref sig .tc .vmem S16x16x128 .f32) (harg18 : arg18.IsWhole) (hc0 : ¬cond0_0 i)
    (x0 : Vec F S6 .f32) (x1 : Vec F S6 .f32) (x2 : Vec F S6 .f32) (x3 : Vec F S2x1x512x1536 .bf16) (x4 : Vec F S12x1536 .f32) (x5 : Vec F S12x1536 .f32) (x6 : Vec F S1536x64 .fp8e4m3) (x7 : Vec F S1x64 .f32) (x8 : Vec F S1x64 .f32) (x9 : Vec F S1x16x16x128 .f32) (xs0 : Vec F S64x1536 .fp8e4m3) : Vec F S64x1536 .fp8e4m3 := xs0

/-! ## What the outputs hold after each point -/

/-- THE ACCUMULATION. What the outputs' staging buffers and the scratch the kernel carries between points hold after the body at position `n`:
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S64x1536 .fp8e4m3
  | 0, hn => sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) scM0_0 (Memref.isWhole_whole _) scM0_1 (Memref.isWhole_whole _) scM0_2 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩)
  | n + 1, hn =>
    if h0 : (n + 1) % 36 = 0 then
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩)
    else
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) scM0_0 (Memref.isWhole_whole _) scM0_1 (Memref.isWhole_whole _) scM0_2 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn))

/-- `outsAt0` at a point of case A: that case's contents. -/
theorem outsAt0_A (c : Dev nD) (t : Fin cfg0.N) (h0 : t.val % 36 = 0) :
    outsAt0 m c t.val t.isLt = sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 36 = 0) :
    outsAt0 m c t.val t.isLt = sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn)) ∗ (∃ d, owns (c : Thread nD τ) scM0_1 fullShare d) ∗ (∃ d, owns (c : Thread nD τ) scM0_2 fullShare d)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega))) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-! ## The pipeline's proof data -/

/-- The output windows this certificate FORGETS (10, 11, 12, 13): nothing reads what the kernel leaves in them, so nothing
    of it is named (Lib/Pipeline/Dat.lean `Dat.toRForget`). -/
def forgets0 : Fin 14 → Bool := fun w => w.val == 10 || w.val == 11 || w.val == 12 || w.val == 13

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
    | ⟨13, h⟩ => Pipeline.Dat.unnamed (cfg := cfg0) ⟨13, h⟩ t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ (∃ d, owns (c : Thread nD τ) (ms0_10 t) fullShare d)
    ∗ (∃ d, owns (c : Thread nD τ) (ms0_11 t) fullShare d)
    ∗ (∃ d, owns (c : Thread nD τ) (ms0_12 t) fullShare d)
    ∗ (∃ d, owns (c : Thread nD τ) (ms0_13 t) fullShare d))

set_option maxHeartbeats 12800000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 36 := lt_of_lt_of_eq t.isLt (show cfg0.N = 36 from N_0)
  by_cases h0 : t.val % 36 = 0
  · by_cases hz : t.val = 0
    · rw [PhiS_castSucc m c t, PhiS_zero m c _ _ hz, PhiA0_eq]
      rw [outsAt0_A m c t h0]
      unfold sout0_A_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_A c (grid0.coords t) _ _ _ _ _ _ _ _ _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      isplitl [HS2]; · iexact HS2
      iintro ⟨H0, H1, H2, H3, H4, H5, H6, H7, H8, H9, H10, H11, H12, H13, ⟨%es0, HS0⟩, HS1, HS2⟩
      isplitl [HS0 HS1 HS2 Hg]
      · isplitl [HS0 HS1 HS2]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _)
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · exfalso; have hN : t.val < 36 := lt_of_lt_of_eq t.isLt (show cfg0.N = 36 from N_0); omega
  · by_cases hz : t.val = 0
    · exfalso; have hN : t.val < 36 := lt_of_lt_of_eq t.isLt (show cfg0.N = 36 from N_0); omega
    · rw [PhiS_castSucc m c t, PhiS_pos m c _ _ hz]
      rw [outsAt0_B m c t h0]
      unfold sout0_B_0
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
      iapply ((kernelRun0_B c (grid0.coords t) _ _ _ _ _ _ _ _ _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexists _; iexact H12
      isplitl [H13]; · iexists _; iexact H13
      isplitl [HS0]; · iexact HS0
      isplitl [HS1]; · iexact HS1
      isplitl [HS2]; · iexact HS2
      iintro ⟨H0, H1, H2, H3, H4, H5, H6, H7, H8, H9, H10, H11, H12, H13, HS0, HS1, HS2⟩
      isplitl [HS0 HS1 HS2 Hg]
      · isplitl [HS0 HS1 HS2]
        · isplitl [HS0]
          · iexact HS0
          isplitl [HS1]
          · iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 36 := N_0; omega)

/-! ## The run and the frame -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (V_main_arg0 m c),
      (Pipeline.RDat.FramePost.arr_in h c 4 rfl).trans ((hA c 4).trans (V_main_arg1 m c)),
      (Pipeline.RDat.FramePost.arr_in h c 5 rfl).trans ((hA c 5).trans (V_main_arg2 m c)),
      (Pipeline.RDat.FramePost.arr_in h c 6 rfl).trans ((hA c 6).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      (Pipeline.RDat.FramePost.arr_in h c 0 rfl).trans ((hA c 0).trans (V_main_arg6 m c)),
      (Pipeline.RDat.FramePost.arr_in h c 1 rfl).trans ((hA c 1).trans (V_main_arg7 m c)),
      (Pipeline.RDat.FramePost.arr_in h c 2 rfl).trans ((hA c 2).trans (V_main_arg8 m c)),
      (Pipeline.RDat.FramePost.arr_in h c 9 rfl).trans ((hA c 9).trans (V_main_arg9 m c))⟩) h

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 10, 11, 12, 13) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_ofR m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.Kernel.Gen

end
-- ==== Proof.Quant.lean ====
/- The row quantiser at the extended reals: the exponent field found by eight comparisons, the power-of-two scale
and its inverse made from that field, and the same two numbers from the logarithm. -/
module

public import Idealize.ShloMosaic.Lib.IdealHost

@[expose] public section

set_option maxRecDepth 16384

namespace Cert.Row
open Idealize.ShloMosaic
open scoped BigOperators

/-- One step of the search for the exponent field: the bit is kept when `y` is at least the number with that field. -/
noncomputable def step (y : EReal) (b t : BitVec 32) : BitVec 32 :=
  if Ideal.cmp .oge y (Ideal.ofBits .f32 (b ||| t)) = 1#1 then b ||| t else b

/-- The exponent field of `y`, highest bit first. -/
noncomputable def kfield (y : EReal) : BitVec 32 :=
  step y (step y (step y (step y (step y (step y (step y (step y 0#32 1073741824#32) 536870912#32) 268435456#32)
    134217728#32) 67108864#32) 33554432#32) 16777216#32) 8388608#32

/-- Whether a row of largest magnitude `a` is left unscaled. -/
noncomputable def kplain (a y : EReal) : BitVec 1 :=
  (Ideal.cmp .oeq a (Ideal.ofBits .f32 0x00000000#32) ||| BitVec.ofBool (kfield y == 2139095040#32)) |||
    BitVec.ofBool (kfield y == 0#32)

/-- The reciprocal of the largest code. -/
noncomputable def cInv : EReal := Ideal.ofBits .f32 0x3B124925#32

/-- The scale made from the exponent field. -/
noncomputable def kscale (a : EReal) : EReal :=
  if kplain a (a * cInv) = 1#1 then Ideal.ofBits .f32 0x3F800000#32
  else Ideal.ofBits .f32 (kfield (a * cInv) + 8388608#32)

/-- The inverse scale made from the exponent field. -/
noncomputable def kinv (a : EReal) : EReal :=
  if kplain a (a * cInv) = 1#1 then Ideal.ofBits .f32 0x3F800000#32
  else Ideal.ofBits .f32 (2122317824#32 - kfield (a * cInv))

/-- The exponent from the logarithm. -/
noncomputable def rexp (y : EReal) : EReal :=
  if (Ideal.cmp .olt y (Ideal.ofBits .f32 0x00800000#32) ||| Ideal.cmp .oeq y (Ideal.ofBits .f32 0x7F800000#32)) = 1#1
  then Ideal.ofBits .f32 0x00000000#32
  else Ideal.liftRound Int.floor (Ideal.div (Ideal.log y) (Ideal.log (Ideal.ofBits .f32 0x40000000#32)))
    + Ideal.ofBits .f32 0x3F800000#32

theorem bits_split : ∀ m : Fin 256, (BitVec.extractLsb' (8 + 23) 1 (BitVec.ofNat 32 (m.val * 8388608)) == 1#1) = false ∧
    (BitVec.extractLsb' 23 8 (BitVec.ofNat 32 (m.val * 8388608))).toNat = m.val ∧
    (BitVec.extractLsb' 0 23 (BitVec.ofNat 32 (m.val * 8388608))).toNat = 0 := by decide +kernel

/-- A pattern with exponent field `m`, and no other bit, is the power of two of that exponent. -/
theorem ofBits_pow (m : ℕ) (h1 : 1 ≤ m) (h2 : m ≤ 254) :
    Ideal.ofBits .f32 (BitVec.ofNat 32 (m * 8388608)) = (((2 : ℝ) ^ ((m : ℤ) - 127) : ℝ) : EReal) := by
  obtain ⟨a, b, c⟩ := bits_split ⟨m, by omega⟩
  simp only at a b c
  show Ideal.ieee 8 23 (BitVec.ofNat 32 (m * 8388608)) = _
  unfold Ideal.ieee
  simp only [a, b, c]
  rw [if_neg (by omega), if_neg (by omega)]
  congr 1
  have : ((m : ℤ) - 127) = ((m : ℤ) - (2 ^ (8 - 1) - 1) - (23 : ℕ)) + 23 := by norm_num
  rw [this, zpow_add₀ (by norm_num)]
  simp
  ring

theorem ofBits_inf : Ideal.ofBits .f32 0x7F800000#32 = ⊤ := by
  simp [Ideal.ofBits, Ideal.ieee]

theorem ofBits_zero : Ideal.ofBits .f32 0x00000000#32 = 0 := by
  simp [Ideal.ofBits, Ideal.ieee]

/-- The number with exponent field `m`. -/
noncomputable def thr (m : ℕ) : EReal := Ideal.ofBits .f32 (BitVec.ofNat 32 (m * 8388608))

theorem step_eq (y : EReal) (E : Fin 256) (hE : ∀ m : ℕ, 1 ≤ m → m ≤ 255 → (thr m ≤ y ↔ m ≤ E.val)) (k : Fin 8) :
    step y (BitVec.ofNat 32 (E.val / 2 ^ (k.val + 1) * 2 ^ (k.val + 1) * 8388608)) (BitVec.ofNat 32 (2 ^ k.val * 8388608))
      = BitVec.ofNat 32 (E.val / 2 ^ k.val * 2 ^ k.val * 8388608) := by
  have h1 : ∀ (E : Fin 256) (k : Fin 8),
      BitVec.ofNat 32 (E.val / 2 ^ (k.val + 1) * 2 ^ (k.val + 1) * 8388608) ||| BitVec.ofNat 32 (2 ^ k.val * 8388608)
        = BitVec.ofNat 32 ((E.val / 2 ^ (k.val + 1) * 2 ^ (k.val + 1) + 2 ^ k.val) * 8388608) ∧
      1 ≤ E.val / 2 ^ (k.val + 1) * 2 ^ (k.val + 1) + 2 ^ k.val ∧
      E.val / 2 ^ (k.val + 1) * 2 ^ (k.val + 1) + 2 ^ k.val ≤ 255 ∧
      (if E.val / 2 ^ (k.val + 1) * 2 ^ (k.val + 1) + 2 ^ k.val ≤ E.val then
        BitVec.ofNat 32 ((E.val / 2 ^ (k.val + 1) * 2 ^ (k.val + 1) + 2 ^ k.val) * 8388608)
        else BitVec.ofNat 32 (E.val / 2 ^ (k.val + 1) * 2 ^ (k.val + 1) * 8388608))
        = BitVec.ofNat 32 (E.val / 2 ^ k.val * 2 ^ k.val * 8388608) := by decide +kernel
  obtain ⟨a, b, c, d⟩ := h1 E k
  unfold step
  rw [a, ← d]
  have := hE _ b c
  unfold thr at this
  by_cases hh : E.val / 2 ^ (k.val + 1) * 2 ^ (k.val + 1) + 2 ^ k.val ≤ E.val
  · rw [if_pos hh, if_pos]
    simp only [Ideal.cmp, decide_eq_true (this.mpr hh)]; rfl
  · rw [if_neg hh, if_neg]
    simp only [Ideal.cmp, decide_eq_false (fun h => hh (this.mp h))]; decide

/-- The search finds the field `E` whenever `E` is the last field not above `y`. -/
theorem kfield_eq (y : EReal) (E : Fin 256) (hE : ∀ m : ℕ, 1 ≤ m → m ≤ 255 → (thr m ≤ y ↔ m ≤ E.val)) :
    kfield y = BitVec.ofNat 32 (E.val * 8388608) := by
  have h0 : (0#32) = BitVec.ofNat 32 (E.val / 2 ^ ((7 : Fin 8).val + 1) * 2 ^ ((7 : Fin 8).val + 1) * 8388608) := by
    have : ∀ E : Fin 256, (0#32) = BitVec.ofNat 32 (E.val / 2 ^ ((7 : Fin 8).val + 1) * 2 ^ ((7 : Fin 8).val + 1) * 8388608) := by
      decide +kernel
    exact this E
  have s7 := step_eq y E hE 7
  have s6 := step_eq y E hE 6
  have s5 := step_eq y E hE 5
  have s4 := step_eq y E hE 4
  have s3 := step_eq y E hE 3
  have s2 := step_eq y E hE 2
  have s1 := step_eq y E hE 1
  have s0 := step_eq y E hE 0
  rw [← h0] at s7
  unfold kfield
  erw [s7, s6, s5, s4, s3, s2, s1, s0]
  simp

theorem thr_pow (m : ℕ) (h1 : 1 ≤ m) (h2 : m ≤ 254) : thr m = (((2 : ℝ) ^ ((m : ℤ) - 127) : ℝ) : EReal) := ofBits_pow m h1 h2
theorem thr_top : thr 255 = ⊤ := ofBits_inf

theorem thr_le_iff (y : ℝ) (E : ℕ) (hE1 : 1 ≤ E) (hE2 : E ≤ 254) (hlo : (2 : ℝ) ^ ((E : ℤ) - 127) ≤ y)
    (hhi : y < (2 : ℝ) ^ ((E : ℤ) - 126)) (m : ℕ) (h1 : 1 ≤ m) (h2 : m ≤ 255) : thr m ≤ (y : EReal) ↔ m ≤ E := by
  rcases Nat.lt_or_ge m 255 with h | h
  · rw [thr_pow m h1 (by omega), EReal.coe_le_coe_iff]
    constructor
    · intro hm
      have : (2 : ℝ) ^ ((m : ℤ) - 127) < (2 : ℝ) ^ ((E : ℤ) - 126) := lt_of_le_of_lt hm hhi
      rw [zpow_lt_zpow_iff_right₀ (by norm_num)] at this
      omega
    · intro hm
      refine le_trans (zpow_le_zpow_right₀ (by norm_num) (by omega)) hlo
  · obtain rfl : m = 255 := by omega
    rw [thr_top]
    constructor
    · intro hh; exact absurd (top_le_iff.mp hh) (EReal.coe_ne_top y)
    · intro hh; omega

/-- Below the smallest normal number the field is zero. -/
theorem kfield_small (y : EReal) (h : y < (((2 : ℝ) ^ (-126 : ℤ) : ℝ) : EReal)) : kfield y = 0#32 := by
  have := kfield_eq y 0 (fun m h1 h2 => by
    constructor
    · intro hm
      exfalso
      have : thr m < (((2 : ℝ) ^ (-126 : ℤ) : ℝ) : EReal) := lt_of_le_of_lt hm h
      rcases Nat.lt_or_ge m 255 with h' | h'
      · rw [thr_pow m h1 (by omega), EReal.coe_lt_coe_iff, zpow_lt_zpow_iff_right₀ (by norm_num)] at this
        omega
      · obtain rfl : m = 255 := by omega
        rw [thr_top] at this
        exact absurd this (not_top_lt)
    · intro hm; simp at hm; omega)
  simpa using this

theorem ofBits_minNormal : Ideal.ofBits .f32 0x00800000#32 = (((2 : ℝ) ^ (-126 : ℤ) : ℝ) : EReal) := by
  have := ofBits_pow 1 (by norm_num) (by norm_num)
  simpa using this

theorem ofBits_two : Ideal.ofBits .f32 0x40000000#32 = ((2 : ℝ) : EReal) := by
  have := ofBits_pow 128 (by norm_num) (by norm_num)
  simpa using this

theorem ofBits_negOne_zero : Ideal.ofBits .f32 0x80000000#32 = 0 := by
  simp [Ideal.ofBits, Ideal.ieee]

/-- The reciprocal of the largest code is a positive real below a four-hundredth. -/
theorem cInv_real : ∃ c : ℝ, cInv = (c : EReal) ∧ 0 < c ∧ c ≤ 1 / 400 := by
  refine ⟨(2 ^ 23 + 0x124925 : ℕ) * (2 : ℝ) ^ (-32 : ℤ), ?_, ?_, ?_⟩
  · simp [cInv, Ideal.ofBits, Ideal.ieee, -EReal.coe_mul]
  · positivity
  · norm_num

/-- Both ways to the scale and to its inverse agree on a row whose scaled magnitude is below 2^126. -/
theorem scale_agree (a : EReal) (h : a * cInv < (((2 : ℝ) ^ (126 : ℤ) : ℝ) : EReal)) :
    kscale a = Ideal.exp2 (rexp (a * cInv)) ∧
    kinv a = Ideal.exp2 (-(rexp (a * cInv))) := by
  rcases lt_or_ge (a * cInv) (((2 : ℝ) ^ (-126 : ℤ) : ℝ) : EReal) with hs | hs
  · have hk := kfield_small _ hs
    have hp : kplain a (a * cInv) = 1#1 := by
      unfold kplain; rw [hk]; simp
      generalize Ideal.cmp .oeq a _ = b
      revert b; decide
    have he : rexp (a * cInv) = 0 := by
      unfold rexp
      rw [if_pos, ofBits_zero]
      rw [ofBits_minNormal]
      simp only [Ideal.cmp, decide_eq_true hs]
      generalize BitVec.ofBool (decide (a * cInv = Ideal.ofBits .f32 0x7F800000#32)) = b
      revert b; decide
    unfold kscale kinv
    rw [if_pos hp, if_pos hp, he, Ideal.ofBits_one_f32]
    have : Ideal.exp2 0 = 1 := by
      show Ideal.exp2 ((0 : ℝ) : EReal) = 1
      show ((Real.rpow 2 0 : ℝ) : EReal) = 1
      simp
    simp [this]
  · obtain ⟨y, hy⟩ : ∃ y : ℝ, a * cInv = (y : EReal) := by
      induction hz : a * cInv using EReal.rec with
      | bot => rw [hz] at hs; exact absurd (le_bot_iff.mp hs) (EReal.coe_ne_bot _)
      | coe r => exact ⟨r, rfl⟩
      | top => rw [hz] at h; exact absurd h not_top_lt
    have hc := cInv_real
    rw [hy] at hs h ⊢
    rw [EReal.coe_le_coe_iff] at hs
    rw [EReal.coe_lt_coe_iff] at h
    have hpos : 0 < y := lt_of_lt_of_le (by positivity) hs
    have ha : a ≠ 0 := by
      rintro rfl
      rw [zero_mul] at hy
      have : y = 0 := by exact_mod_cast hy.symm
      linarith
    -- the binade
    obtain ⟨n, hn1, hn2⟩ := exists_mem_Ico_zpow hpos (by norm_num : (1 : ℝ) < 2)
    have hnlo : -126 ≤ n := by
      have : (2 : ℝ) ^ (-126 : ℤ) < (2 : ℝ) ^ (n + 1) := lt_of_le_of_lt hs hn2
      rw [zpow_lt_zpow_iff_right₀ (by norm_num)] at this
      omega
    have hnhi : n < 126 := by
      have : (2 : ℝ) ^ n < (2 : ℝ) ^ (126 : ℤ) := lt_of_le_of_lt hn1 h
      rwa [zpow_lt_zpow_iff_right₀ (by norm_num)] at this
    obtain ⟨E, hE⟩ : ∃ E : ℕ, (E : ℤ) = n + 127 := ⟨(n + 127).toNat, by omega⟩
    have hf : kfield (y : EReal) = BitVec.ofNat 32 (E * 8388608) :=
      kfield_eq _ ⟨E, by omega⟩ (fun m h1 h2 => thr_le_iff y E (by omega) (by omega)
        (by rw [hE]; simpa using hn1) (by rw [show (((⟨E, by omega⟩ : Fin 256).val : ℤ) - 126) = n + 1 by show (E : ℤ) - 126 = n + 1; omega]; exact hn2) m h1 h2)
    have hb : ∀ E : Fin 253, 1 ≤ E.val → (BitVec.ofNat 32 (E.val * 8388608) == 2139095040#32) = false ∧
        (BitVec.ofNat 32 (E.val * 8388608) == 0#32) = false ∧
        BitVec.ofNat 32 (E.val * 8388608) + 8388608#32 = BitVec.ofNat 32 ((E.val + 1) * 8388608) ∧
        2122317824#32 - BitVec.ofNat 32 (E.val * 8388608) = BitVec.ofNat 32 ((253 - E.val) * 8388608) := by decide +kernel
    obtain ⟨b1, b2, b3, b4⟩ := hb ⟨E, by omega⟩ (by show 1 ≤ E; omega)
    simp only at b1 b2 b3 b4
    have hp : kplain a (y : EReal) = 0#1 := by
      unfold kplain
      rw [hf, b1, b2, ofBits_zero]
      simp [Ideal.cmp, ha]
    have he : rexp (y : EReal) = (((n + 1 : ℤ) : ℝ) : EReal) := by
      unfold rexp
      rw [if_neg]
      · rw [ofBits_two, Ideal.log_coe, Ideal.log_coe, if_neg (by linarith), if_neg (by norm_num),
          Ideal.div_coe (by positivity), ← EReal.coe_mul, Ideal.ofBits_one_f32]
        have hfl : Int.floor (Real.log y * (1 / Real.log 2)) = n := by
          have hl : 0 < Real.log 2 := Real.log_pos (by norm_num)
          rw [Int.floor_eq_iff, mul_one_div, le_div_iff₀ hl, div_lt_iff₀ hl]
          constructor
          · rw [← Real.log_zpow]; exact Real.log_le_log (by positivity) hn1
          · have : ((n : ℝ) + 1) = ((n + 1 : ℤ) : ℝ) := by push_cast; rfl
            rw [this, ← Real.log_zpow]; exact Real.log_lt_log hpos hn2
        show ((((Int.floor (Real.log y * (1 / Real.log 2)) : ℤ)) : ℝ) : EReal) + 1 = _
        rw [hfl]; push_cast; norm_cast
      · rw [ofBits_minNormal, ofBits_inf]
        have h1 : ¬ ((y : EReal) < (((2 : ℝ) ^ (-126 : ℤ) : ℝ) : EReal)) := by
          rw [EReal.coe_lt_coe_iff]; exact not_lt.mpr hs
        simp only [Ideal.cmp, decide_eq_false h1, decide_eq_false (EReal.coe_ne_top y)]
        decide
    have hpw : ∀ k : ℤ, Ideal.exp2 (((k : ℤ) : ℝ) : EReal) = (((2 : ℝ) ^ k : ℝ) : EReal) := by
      intro k
      show ((Real.rpow 2 (k : ℝ) : ℝ) : EReal) = _
      rw [← Real.rpow_intCast]; rfl
    unfold kscale kinv
    rw [hy, hp, if_neg (by decide), if_neg (by decide), hf, b3, b4, he, hpw,
      ofBits_pow _ (by omega) (by omega), ofBits_pow _ (by omega) (by omega)]
    constructor
    · congr 2; push_cast; omega
    · have : -(((n + 1 : ℤ) : ℝ) : EReal) = (((-(n + 1) : ℤ) : ℝ) : EReal) := by push_cast; norm_cast
      rw [this, hpw]
      congr 2
      have : ((253 - E : ℕ) : ℤ) = 253 - (E : ℤ) := by omega
      rw [this]; omega

end Cert.Row

end
-- ==== Proof.Row.lean ====
/- One row through the layer: its normalisation, its modulation, its largest magnitude, and why that magnitude stays
below 2^126 times the largest code when the modulation is finite. -/
module

public import proofs.«01_k».proof.Proof.Quant

@[expose] public section

set_option maxRecDepth 16384

noncomputable section

namespace Cert.Row
open Idealize.ShloMosaic
open scoped BigOperators

/-- The number of columns, as a float constant. -/
def cN : EReal := Ideal.ofBits .f32 0x44C00000#32
/-- The normalisation's epsilon. -/
def cEps : EReal := Ideal.ofBits .f32 0x358637BD#32
/-- One. -/
def cOne : EReal := Ideal.ofBits .f32 0x3F800000#32
/-- The largest finite float. -/
def cMax : EReal := Ideal.ofBits .f32 0x7F7FFFFF#32

/-- The row less its mean. -/
def dlt (x : Fin 1536 → EReal) (k : Fin 1536) : EReal := x k - Ideal.div (∑ j, x j) cN
/-- The row's variance. -/
def var (x : Fin 1536 → EReal) : EReal := Ideal.div (∑ j, dlt x j * dlt x j) cN
/-- The row normalised and modulated. -/
def hrow (x sc sh : Fin 1536 → EReal) (k : Fin 1536) : EReal :=
  dlt x k * Ideal.rsqrt (var x + cEps) * (cOne + sc k) + sh k
/-- The row's largest magnitude. -/
def amax (h : Fin 1536 → EReal) : EReal := Finset.univ.sup fun k => max (h k) (-(h k))
/-- One code: the scaled value clipped to the largest code. -/
def code (h inv : EReal) : EReal :=
  min (Ideal.ofBits .f32 0x43E00000#32) (max (Ideal.ofBits .f32 0xC3E00000#32) (h * inv))

theorem cN_real : cN = ((1536 : ℝ) : EReal) := by
  simp [cN, Ideal.ofBits, Ideal.ieee, -EReal.coe_mul]; norm_num

theorem cEps_real : ∃ e : ℝ, cEps = (e : EReal) ∧ 0 < e := by
  refine ⟨(2 ^ 23 + 0x0637BD : ℕ) * (2 : ℝ) ^ (-43 : ℤ), ?_, ?_⟩
  · simp [cEps, Ideal.ofBits, Ideal.ieee, -EReal.coe_mul]
  · positivity

theorem cMax_real : ∃ e : ℝ, cMax = (e : EReal) ∧ e ≤ 2 ^ 128 := by
  refine ⟨(2 ^ 23 + 0x7FFFFF : ℕ) * (2 : ℝ) ^ (104 : ℤ), ?_, ?_⟩
  · simp [cMax, Ideal.ofBits, Ideal.ieee, -EReal.coe_mul]
  · norm_num

/-- A number of finite magnitude is a real of that magnitude at most. -/
theorem real_of_abs_le (z : EReal) (h : max z (-z) ≤ cMax) : ∃ r : ℝ, z = (r : EReal) ∧ |r| ≤ 2 ^ 128 := by
  obtain ⟨e, he, hb⟩ := cMax_real
  rw [he] at h
  induction z using EReal.rec with
  | bot => simp at h
  | top => simp at h
  | coe r =>
    refine ⟨r, rfl, ?_⟩
    have h1 := (le_max_left _ _).trans h
    have h2 := (le_max_right _ _).trans h
    rw [← EReal.coe_neg] at h2
    rw [EReal.coe_le_coe_iff] at h1 h2
    exact abs_le.mpr ⟨by linarith, by linarith⟩

theorem coe_sum {n : ℕ} (f : Fin n → ℝ) : ((∑ j, f j : ℝ) : EReal) = ∑ j, (f j : EReal) := by
  classical
  refine Finset.induction_on (Finset.univ : Finset (Fin n)) (by simp) fun a s ha ih => ?_
  rw [Finset.sum_insert ha, Finset.sum_insert ha, EReal.coe_add, ih]

theorem sq_nonneg' (z : EReal) : 0 ≤ z * z := by
  induction z using EReal.rec with
  | bot => simp
  | top => simp
  | coe r => rw [← EReal.coe_mul]; exact_mod_cast mul_self_nonneg r

/-- The normalised and modulated row is made of reals below 168 · 2^126 in magnitude. -/
theorem hrow_real (x sc sh : Fin 1536 → EReal) (hsc : ∀ k, max (sc k) (-(sc k)) ≤ cMax)
    (hsh : ∀ k, max (sh k) (-(sh k)) ≤ cMax) (k : Fin 1536) :
    ∃ r : ℝ, hrow x sc sh k = (r : EReal) ∧ |r| ≤ 168 * 2 ^ 126 := by
  obtain ⟨s, hs, hs'⟩ := real_of_abs_le _ (hsc k)
  obtain ⟨b, hb, hb'⟩ := real_of_abs_le _ (hsh k)
  obtain ⟨e, he, he'⟩ := cEps_real
  by_cases hinf : ∀ j, ∃ r : ℝ, dlt x j = (r : EReal)
  · choose r hr using hinf
    have hvar : var x = (((∑ j, r j * r j) * (1 / 1536) : ℝ) : EReal) := by
      unfold var
      rw [cN_real, Ideal.div_coe (by norm_num), EReal.coe_mul]
      congr 1
      rw [coe_sum]
      exact Finset.sum_congr rfl fun j _ => by rw [hr j, EReal.coe_mul]
    have hS : 0 ≤ ∑ j, r j * r j := Finset.sum_nonneg fun j _ => mul_self_nonneg _
    have hk : r k * r k ≤ ∑ j, r j * r j :=
      Finset.single_le_sum (f := fun j => r j * r j) (fun j _ => mul_self_nonneg _) (Finset.mem_univ k)
    generalize ∑ j, r j * r j = S at *
    have hv : 0 < S * (1 / 1536) + e := by positivity
    have hrs : Ideal.rsqrt (var x + cEps) = (((Real.sqrt (S * (1 / 1536) + e))⁻¹ : ℝ) : EReal) := by
      rw [hvar, he, ← EReal.coe_add, Ideal.rsqrt_coe, if_neg (by linarith), if_neg (by linarith)]
    have hq : |r k * (Real.sqrt (S * (1 / 1536) + e))⁻¹| ≤ 40 := by
      refine abs_le_of_sq_le_sq ?_ (by norm_num)
      rw [mul_pow, inv_pow, Real.sq_sqrt hv.le, ← div_eq_mul_inv, div_le_iff₀ hv]
      nlinarith
    refine ⟨r k * (Real.sqrt (S * (1 / 1536) + e))⁻¹ * (1 + s) + b, ?_, ?_⟩
    · unfold hrow
      rw [hrs, hr k, hs, hb, cOne, Ideal.ofBits_one_f32]
      norm_cast
    · have h1 : |1 + s| ≤ 1 + 2 ^ 128 := (abs_add_le 1 s).trans (by rw [abs_one]; linarith)
      have h2 : |r k * (Real.sqrt (S * (1 / 1536) + e))⁻¹ * (1 + s)| ≤ 40 * (1 + 2 ^ 128) := by
        rw [abs_mul]; exact mul_le_mul hq h1 (abs_nonneg _) (by norm_num)
      refine (abs_add_le _ _).trans ?_
      have : (40 * (1 + 2 ^ 128) + 2 ^ 128 : ℝ) ≤ 168 * 2 ^ 126 := by norm_num
      linarith
  · push Not at hinf
    obtain ⟨j, hj⟩ := hinf
    have hjj : dlt x j * dlt x j = ⊤ := by
      induction hz : dlt x j using EReal.rec with
      | bot => simp
      | top => simp
      | coe r => exact absurd hz (hj r)
    have hsum : ∑ j, dlt x j * dlt x j = ⊤ := by
      refine top_le_iff.mp ?_
      rw [← hjj]
      exact Finset.single_le_sum (f := fun j => dlt x j * dlt x j) (fun j _ => sq_nonneg' _) (Finset.mem_univ j)
    have hv : var x = ⊤ := by
      unfold var
      rw [hsum, cN_real, Ideal.div_coe (by norm_num)]
      exact EReal.top_mul_coe_of_pos (by norm_num)
    refine ⟨b, ?_, hb'.trans (by norm_num)⟩
    unfold hrow
    rw [hv, he, EReal.top_add_coe, Ideal.rsqrt_top, mul_zero, zero_mul, zero_add, hb]

/-- The largest magnitude, scaled, is below 2^126. -/
theorem amax_lt (x sc sh : Fin 1536 → EReal) (hsc : ∀ k, max (sc k) (-(sc k)) ≤ cMax)
    (hsh : ∀ k, max (sh k) (-(sh k)) ≤ cMax) :
    amax (hrow x sc sh) * cInv < (((2 : ℝ) ^ (126 : ℤ) : ℝ) : EReal) := by
  obtain ⟨c, hc, hc0, hc1⟩ := cInv_real
  have hle : amax (hrow x sc sh) ≤ ((168 * 2 ^ 126 : ℝ) : EReal) := by
    refine Finset.sup_le fun k _ => ?_
    obtain ⟨r, hr, hb⟩ := hrow_real x sc sh hsc hsh k
    rw [hr, ← EReal.coe_neg]
    have := abs_le.mp hb
    exact max_le (EReal.coe_le_coe_iff.mpr this.2) (EReal.coe_le_coe_iff.mpr (by linarith))
  rw [hc]
  refine lt_of_le_of_lt (mul_le_mul_of_nonneg_right hle (by exact_mod_cast hc0.le)) ?_
  rw [← EReal.coe_mul, EReal.coe_lt_coe_iff]
  have : (168 * 2 ^ 126 : ℝ) * c ≤ 168 * 2 ^ 126 * (1 / 400) := mul_le_mul_of_nonneg_left hc1 (by positivity)
  refine lt_of_le_of_lt this ?_
  norm_num

/-- The scale and the inverse scale of a row, both ways. -/
theorem row_agree (x sc sh : Fin 1536 → EReal) (hsc : ∀ k, max (sc k) (-(sc k)) ≤ cMax)
    (hsh : ∀ k, max (sh k) (-(sh k)) ≤ cMax) :
    kscale (amax (hrow x sc sh)) = Ideal.exp2 (rexp (amax (hrow x sc sh) * cInv)) ∧
    kinv (amax (hrow x sc sh)) = Ideal.exp2 (-(rexp (amax (hrow x sc sh) * cInv))) :=
  scale_agree _ (amax_lt x sc sh hsc hsh)

end Cert.Row

end
-- ==== Proof.Spec.lean ====
/- The four results as functions of the ten arguments, over a scale and an inverse scale made from a row's largest
magnitude. -/
module

public import proofs.«01_k».proof.Proof.Row
public import Idealize.ShloMosaic.Lib.Pointwise

@[expose] public section

set_option maxRecDepth 16384

noncomputable section

namespace Cert.Row
open Idealize.ShloMosaic
open scoped BigOperators

/-- A row's codes. -/
def crow (I : EReal → EReal) (x sc sh : Fin 1536 → EReal) (k : Fin 1536) : EReal :=
  code (hrow x sc sh k) (I (amax (hrow x sc sh)))

/-- A row's product with one column of the weights, scaled back and biased. -/
def yrow (S I : EReal → EReal) (x sc sh w : Fin 1536 → EReal) (ws bo : EReal) : EReal :=
  (∑ k, crow I x sc sh k * w k) * S (amax (hrow x sc sh)) * ws + bo

/-- The unconditioned half moved towards the conditioned one. -/
def mix (g yc yu : EReal) : EReal := yu + g * (yc - yu)

/-- Row `b`, or row `b + 6`. -/
def lo (b : Fin 6) : Fin 12 := ⟨b.val, by omega⟩
def hi (b : Fin 6) : Fin 12 := ⟨b.val + 6, by omega⟩

/-- The token holding image row `R`, column `L`. -/
def tok (R : Fin 96) (L : Fin 128) : Fin 3072 := ⟨R.val / 2 * 64 + L.val / 2, by omega⟩
/-- The output feature holding channel `c` of image row `R`, column `L`. -/
def feat (c : Fin 16) (R : Fin 96) (L : Fin 128) : Fin 64 := ⟨(R.val % 2 * 2 + L.val % 2) * 16 + c.val, by omega⟩

section
variable (S I : EReal → EReal)
variable (a0 : (⟨3, ![12, 3072, 1536]⟩ : Shape).Idx → EReal) (a1 a2 : (⟨2, ![12, 1536]⟩ : Shape).Idx → EReal)
variable (a3 : (⟨2, ![1536, 64]⟩ : Shape).Idx → EReal) (a4 a5 : (⟨1, ![64]⟩ : Shape).Idx → EReal)
variable (a6 a7 a8 : (⟨1, ![6]⟩ : Shape).Idx → EReal) (a9 : (⟨4, ![6, 16, 96, 128]⟩ : Shape).Idx → EReal)

/-- Row `(r, s)` of the input, and the modulation of batch row `r`. -/
def xr (r : Fin 12) (s : Fin 3072) (k : Fin 1536) : EReal := a0 (ix3 r s k)
def mr (r : Fin 12) (k : Fin 1536) : EReal := a1 (ix2 r k)
def wc (o : Fin 64) (k : Fin 1536) : EReal := a3 (ix2 k o)

/-- The scale of row `(r, s)`. -/
def sXs (r : Fin 12) (s : Fin 3072) : EReal := S (amax (hrow (xr a0 r s) (mr a2 r) (mr a1 r)))
/-- The code of row `(r, s)` at column `k`. -/
def sCd (r : Fin 12) (s : Fin 3072) (k : Fin 1536) : EReal := crow I (xr a0 r s) (mr a2 r) (mr a1 r) k
/-- The product of row `(r, s)` with column `o`. -/
def sY (r : Fin 12) (s : Fin 3072) (o : Fin 64) : EReal :=
  yrow S I (xr a0 r s) (mr a2 r) (mr a1 r) (wc a3 o) (a4 (ix1 o)) (a5 (ix1 o))
/-- The guided value at batch row `b`, token `s`, feature `o`. -/
def sV (b : Fin 6) (s : Fin 3072) (o : Fin 64) : EReal :=
  mix (a6 (ix1 b)) (sY S I a0 a1 a2 a3 a4 a5 (lo b) s o) (sY S I a0 a1 a2 a3 a4 a5 (hi b) s o)
/-- The image. -/
def sImg (b : Fin 6) (c : Fin 16) (R : Fin 96) (L : Fin 128) : EReal :=
  sV S I a0 a1 a2 a3 a4 a5 a6 b (tok R L) (feat c R L)
/-- The latent moved along the image. -/
def sLat (b : Fin 6) (c : Fin 16) (R : Fin 96) (L : Fin 128) : EReal :=
  a9 (ix4 b c R L) + (a8 (ix1 b) - a7 (ix1 b)) * sImg S I a0 a1 a2 a3 a4 a5 a6 b c R L

end

/-- The reference's scale, and its inverse. -/
def rscale (a : EReal) : EReal := Ideal.exp2 (rexp (a * cInv))
def rinv (a : EReal) : EReal := Ideal.exp2 (-(rexp (a * cInv)))

end Cert.Row

end
-- ==== Proof.Pay.lean ====
/- The kernel's vector arithmetic on one chunk of rows, on one strip of scales and on one strip of products, read at an
index. -/
module

public import proofs.«01_k».proof.Proof.Gen.KernelIdeal.Skeleton
public import proofs.«01_k».proof.Proof.Spec

@[expose] public section

set_option maxRecDepth 16384

noncomputable section

namespace Cert.Pay
open Idealize.ShloMosaic Cert.KernelIdeal Cert.KernelIdeal.Gen Cert.Row
open scoped BigOperators

/-- A fold of `max` from the bottom is the supremum. -/
theorem fold_max_bot {n : ℕ} (f : Fin n → EReal) : (Finset.univ : Finset (Fin n)).fold max ⊥ f = Finset.univ.sup f := by
  unfold Finset.sup; with_reducible rfl

theorem ofBits_ninf : Ideal.ofBits .f32 0xFF800000#32 = ⊥ := by
  simp [Ideal.ofBits, Ideal.ieee]

section chunk
variable (v7 v11 : Vec Ideal S1x1536 .f32) (X : Vec Ideal S1x1x64x1536 .bf16)

/-- Row `r` of a chunk, and a row vector. -/
def cx (r : Fin 64) (k : Fin 1536) : EReal := X (ix4 0 0 r k)
def rv (v : Vec Ideal S1x1536 .f32) (k : Fin 1536) : EReal := v (ix2 0 k)
/-- Row `r` of a chunk, modulated; its largest magnitude. -/
def ch (r : Fin 64) : Fin 1536 → EReal := hrow (cx X r) (rv v7) (rv v11)
def ca (r : Fin 64) : EReal := amax (ch v7 v11 X r)

theorem pay2_at (r : Fin 64) (k : Fin 1536) :
    (k0_pay2 (F := Ideal) (k0_pay21 v7) v11 X (ix2 r k) : EReal) = ch v7 v11 X r k := by
  pointwise [k0_pay2, k0_pay21]
  unfold ch hrow cOne
  rw [Ideal.ofBits_one_f32]
  rfl

theorem rowmax_at (v : FVec Ideal S64x1536 .f32) (r : Fin 64) :
    ((multiReduction (F := Ideal) .maximumf [1] S64 v 0xFF800000#32 reduces_S64x1536_S64 (.inl rfl) rfl) (ix1 r) : EReal)
      = (Finset.univ : Finset (Fin 1536)).sup (fun k => v (ix2 r k)) := by
  have h : ((multiReduction (F := Ideal) .maximumf [1] S64 v 0xFF800000#32 reduces_S64x1536_S64 (.inl rfl) rfl) (ix1 r) : EReal)
      = (Finset.univ : Finset (Fin 1536)).fold max (Ideal.ofBits .f32 0xFF800000#32) (fun k => v (ix2 r k)) := by
    refine (Ideal.multiReduction_maximumf_single v _ reduces_S64x1536_S64 _ _ (ix1 r)).trans ?_
    refine Finset.fold_congr fun k _ => congrArg v (funext fun a => ?_)
    match a with
    | ⟨0, _⟩ => rfl
    | ⟨1, _⟩ => rfl
  rw [h, ofBits_ninf]
  exact fold_max_bot _

theorem pay3_eq : k0_pay3 (F := Ideal) (k0_pay21 v7) v11 X = shapeCast S64x1 (multiReduction .maximumf [1] S64
    (absf (k0_pay2 (k0_pay21 v7) v11 X)) 0xFF800000#32 reduces_S64x1536_S64 (.inl rfl) rfl) shapeCasts_S64_S64x1 := by
  delta k0_pay3
  with_reducible rfl

theorem cast_at (M : FVec Ideal S64 .f32) (r : Fin 64) : shapeCast S64x1 M shapeCasts_S64_S64x1 (ix2 r 0) = M (ix1 r) := by
  pointwise []

theorem abs_at (H : FVec Ideal S64x1536 .f32) (r : Fin 64) (g : Fin 1536 → EReal)
    (h : ∀ k, (H (ix2 r k) : EReal) = g k) :
    (Finset.univ : Finset (Fin 1536)).sup (fun k => (absf H (ix2 r k) : EReal)) = amax g := by
  unfold amax
  refine Finset.sup_congr rfl fun k _ => ?_
  rw [← h k]
  rfl

theorem pay3_at (r : Fin 64) : (k0_pay3 (F := Ideal) (k0_pay21 v7) v11 X (ix2 r 0) : EReal) = ca v7 v11 X r :=
  (congrFun (pay3_eq v7 v11 X) (ix2 r 0)).trans ((cast_at _ r).trans ((rowmax_at _ r).trans (abs_at _ r _ (pay2_at v7 v11 X r))))

theorem pay4_eq : k0_pay4 (F := Ideal) (k0_pay21 v7) v11 X
    = mulf (k0_pay3 (k0_pay21 v7) v11 X) (broadcast S64x1 (Scalar.ofBits .f32 0x3B124925#32)) := by
  delta k0_pay4
  with_reducible rfl

theorem mulc (M : FVec Ideal S64x1 .f32) (j : S64x1.Idx) :
    (mulf M (broadcast S64x1 (Scalar.ofBits .f32 0x3B124925#32)) j : EReal) = (M j : EReal) * cInv := rfl

theorem pay4_at (r : Fin 64) : (k0_pay4 (F := Ideal) (k0_pay21 v7) v11 X (ix2 r 0) : EReal) = ca v7 v11 X r * cInv :=
  (congrFun (pay4_eq v7 v11 X) (ix2 r 0)).trans ((mulc _ _).trans (congrArg (· * cInv) (pay3_at v7 v11 X r)))

/-- The first two bits of the ladder over the scaled magnitudes. -/
def lad2 (y : FVec Ideal S64x1 .f32) : IVec S64x1 32 :=
  have v717 : IVec S64x1 32 := broadcast S64x1 0#32
  have v718 : IVec S64x1 32 := broadcast S64x1 1073741824#32
  have v719 : IVec S64x1 32 := ori v717 v718
  have v720 : FVec Ideal S64x1 .f32 := bitcastToFloat .f32 v719
  have v721 : IVec S64x1 1 := cmpf .oge y v720
  have v722 : IVec S64x1 32 := select v721 v719 v717
  have v723 : IVec S64x1 32 := broadcast S64x1 536870912#32
  have v724 : IVec S64x1 32 := ori v722 v723
  have v725 : FVec Ideal S64x1 .f32 := bitcastToFloat .f32 v724
  have v726 : IVec S64x1 1 := cmpf .oge y v725
  have v727 : IVec S64x1 32 := select v726 v724 v722
  v727

theorem pay5_eq : k0_pay5 (F := Ideal) (k0_pay21 v7) v11 X = lad2 (k0_pay4 (k0_pay21 v7) v11 X) := by
  delta k0_pay5 lad2
  with_reducible rfl

theorem pay6_eq : k0_pay6 (F := Ideal) (k0_pay21 v7) v11 X
    = ori (lad2 (k0_pay4 (k0_pay21 v7) v11 X)) (broadcast S64x1 268435456#32) := by
  rw [← pay5_eq]
  delta k0_pay6
  with_reducible rfl

/-- The ladder finds the exponent field. -/
theorem field_at (y : FVec Ideal S64x1 .f32) (r : Fin 64) (z : EReal) (hz : y (ix2 r 0) = z) :
    k0_pay7 (F := Ideal) y (lad2 y) (ori (lad2 y) (broadcast S64x1 268435456#32)) (ix2 r 0) = kfield z := by
  simp only [k0_pay7, lad2, select, ori, cmpf, broadcast, bitcastToFloat, hz]
  unfold kfield step
  rfl

/-- The scale. -/
theorem scale_of (a y : FVec Ideal S64x1 .f32) (p : IVec S64x1 32) (q : IVec S64x1 32) (r : Fin 64) (A : EReal)
    (ha : a (ix2 r 0) = A) (hp : k0_pay7 (F := Ideal) y p q (ix2 r 0) = kfield (A * cInv)) :
    (k0_pay9 (F := Ideal) a y p q (ix2 r 0) : EReal) = kscale A := by
  simp only [k0_pay9, k0_pay8, select, ori, cmpf, cmpi, addi, broadcast, bitcastToFloat, ha, hp]
  unfold kscale kplain
  rfl

/-- The scaled row. -/
theorem code_of (h : FVec Ideal S64x1536 .f32) (a y : FVec Ideal S64x1 .f32) (p : IVec S64x1 32) (q : IVec S64x1 32) (r : Fin 64)
    (k : Fin 1536) (A : EReal) (ha : a (ix2 r 0) = A) (hp : k0_pay7 (F := Ideal) y p q (ix2 r 0) = kfield (A * cInv)) :
    (k0_pay10 (F := Ideal) h a y p q (ix2 r k) : EReal) = (h (ix2 r k) : EReal) * kinv A := by
  have e : ∀ w : FVec Ideal S64x1 .f32, broadcastTo S64x1536 w broadcasts_S64x1_S64x1536 (ix2 r k) = w (ix2 r 0) := by
    intro w; pointwise []
  simp only [k0_pay10, mulf, e]
  simp only [k0_pay8, select, ori, cmpf, cmpi, subi, broadcast, bitcastToFloat, ha, hp]
  unfold kinv kplain
  rfl

theorem clip_of (h : FVec Ideal S64x1536 .f32) (r : Fin 64) (k : Fin 1536) (z i : EReal) (hz : h (ix2 r k) = z * i) :
    (k0_pay22 (F := Ideal) h (ix4 0 0 r k) : EReal) = code z i := by
  pointwise [k0_pay22]
  rw [hz]
  rfl

theorem spread_of (w : FVec Ideal S64x1 .f32) (r : Fin 64) (l : Fin 128) :
    (k0_pay23 (F := Ideal) w (ix2 r l) : EReal) = w (ix2 r 0) := by
  pointwise [k0_pay23]

/-- THE CODES OF A CHUNK. -/
theorem codes_at (r : Fin 64) (k : Fin 1536) :
    (k0_pay22 (F := Ideal) (k0_pay10 (k0_pay2 (k0_pay21 v7) v11 X) (k0_pay3 (k0_pay21 v7) v11 X) (k0_pay4 (k0_pay21 v7) v11 X)
      (k0_pay5 (k0_pay21 v7) v11 X) (k0_pay6 (k0_pay21 v7) v11 X)) (ix4 0 0 r k) : EReal) = crow kinv (cx X r) (rv v7) (rv v11) k := by
  refine (clip_of _ r k _ _ (code_of _ _ _ _ _ r k _ (pay3_at v7 v11 X r) ?_)).trans ?_
  · rw [pay5_eq, pay6_eq]
    exact field_at _ r _ (pay4_at v7 v11 X r)
  · rw [pay2_at]
    rfl

/-- THE SCALES OF A CHUNK. -/
theorem scales_at (r : Fin 64) (l : Fin 128) :
    (k0_pay23 (F := Ideal) (k0_pay9 (k0_pay3 (k0_pay21 v7) v11 X) (k0_pay4 (k0_pay21 v7) v11 X)
      (k0_pay5 (k0_pay21 v7) v11 X) (k0_pay6 (k0_pay21 v7) v11 X)) (ix2 r l) : EReal) = kscale (amax (hrow (cx X r) (rv v7) (rv v11))) := by
  refine (spread_of _ r l).trans ((scale_of _ _ _ _ r _ (pay3_at v7 v11 X r) ?_).trans rfl)
  rw [pay5_eq, pay6_eq]
  exact field_at _ r _ (pay4_at v7 v11 X r)

end chunk

/-- The second half's chunks go through the same arithmetic. -/
theorem pay11_eq : @k0_pay11 Ideal _ = @k0_pay2 Ideal _ := rfl

end Cert.Pay

end
-- ==== Proof.Loop.lean ====
/- The two loops of a grid point over its 64-row chunks: what their stores leave, read at an index. -/
module

public import proofs.«01_k».proof.Proof.Gen.KernelIdeal.Loops
public import proofs.«01_k».proof.Proof.Pay
public import Idealize.ShloMosaic.Lib.Pipeline.FrameBody
public import Idealize.ShloMosaic.Lib.Pipeline.Value

@[expose] public section

set_option maxRecDepth 16384

noncomputable section

namespace Cert.Loop
open Idealize.ShloMosaic Idealize.ShloMosaic.TcCoe Cert.KernelIdeal Cert.KernelIdeal.Gen Cert.Row

/-- The codes of a grid point's block, whose two halves have their own modulations. -/
def codesG (X : Vec Ideal S2x1x512x1536 .bf16) (sc sh : Fin 2 → Fin 1536 → EReal) (j : S2x1x512x1536.Idx) : EReal :=
  crow kinv (fun k => X (ix4 (j 0) 0 (j 2) k)) (sc (j 0)) (sh (j 0)) (j 3)

/-- The scales of one half, one per row, the same in every lane. -/
def scaleG (X : Vec Ideal S2x1x512x1536 .bf16) (sc sh : Fin 2 → Fin 1536 → EReal) (h : Fin 2) (j : S512x128.Idx) : EReal :=
  kscale (amax (hrow (fun k => X (ix4 h 0 (j 0) k)) (sc h) (sh h)))

theorem off2_eq : ∀ k : Fin k0_t1_loop.trips, k0_off2 k = ![0, 0, 64 * k.val, 0] := by decide +kernel
theorem off3_eq : ∀ k : Fin k0_t1_loop.trips, k0_off3 k = ![64 * k.val, 0] := by decide +kernel
theorem off5_eq : ∀ k : Fin k0_t2_loop.trips, k0_off5 k = ![1, 0, 64 * k.val, 0] := by decide +kernel
theorem off6_eq : ∀ k : Fin k0_t2_loop.trips, k0_off6 k = ![64 * k.val, 0] := by decide +kernel

/-- Row `r` of chunk `n`. -/
def row (n : ℕ) (hn : n < 8) (r : Fin 64) : Fin 512 := ⟨64 * n + r.val, by omega⟩

/-- The place of an entry of a chunk in the block. -/
theorem emb4 (h : Fin 2) (n : ℕ) (hn : n < 8) (off : Fin 4 → ℕ) (ho : off = ![h.val, 0, 64 * n, 0])
    (inb : ∀ a, off a + S1x1x64x1536.size a ≤ S2x1x512x1536.size a) (r : Fin 64) (k : Fin 1536) :
    (Rect.unit (s := S2x1x512x1536) off S1x1x64x1536.size inb).emb (ix4 0 0 r k) = ix4 h 0 (row n hn r) k := by
  subst ho
  refine funext fun a => Fin.ext ?_
  match a with
  | ⟨0, _⟩ => show h.val + 1 * 0 = h.val; omega
  | ⟨1, _⟩ => rfl
  | ⟨2, _⟩ => show 64 * n + 1 * r.val = 64 * n + r.val; omega
  | ⟨3, _⟩ => show 0 + 1 * k.val = k.val; omega

theorem emb2 (n : ℕ) (hn : n < 8) (off : Fin 2 → ℕ) (ho : off = ![64 * n, 0])
    (inb : ∀ a, off a + S64x128.size a ≤ S512x128.size a) (r : Fin 64) (l : Fin 128) :
    (Rect.unit (s := S512x128) off S64x128.size inb).emb (ix2 r l) = ix2 (row n hn r) l := by
  subst ho
  refine funext fun a => Fin.ext ?_
  match a with
  | ⟨0, _⟩ => show 64 * n + 1 * r.val = 64 * n + r.val; omega
  | ⟨1, _⟩ => show 0 + 1 * l.val = l.val; omega

/-- A chunk as loaded from the block. -/
theorem chunk_at (arg5 : Memref sig .tc .vmem S2x1x512x1536 .bf16) (harg5 : arg5.IsWhole) (X : Vec Ideal S2x1x512x1536 .bf16)
    (h : Fin 2) (n : ℕ) (hn : n < 8) (off : Fin 4 → ℕ) (ho : off = ![h.val, 0, 64 * n, 0])
    (inb : ∀ a, off a + S1x1x64x1536.size a ≤ S2x1x512x1536.size a) (r : Fin 64) (k : Fin 1536) :
    (View.readAt (Elt Ideal) arg5.view (Rect.unit (s := S2x1x512x1536) off S1x1x64x1536.size inb).toLoadRect (harg5.unread X)) (ix4 0 0 r k)
      = X (ix4 h 0 (row n hn r) k) := by
  rw [View.readAt_eq_ld, harg5.read_unread]
  exact congrArg X (emb4 h n hn off ho inb r k)

section loop1
variable (c : Dev nD) (i : grid0.Coords) (arg2 : Memref sig .tc .smem S6 .f32) (harg2 : arg2.IsWhole) (arg3 : Memref sig .tc .smem S6 .f32) (harg3 : arg3.IsWhole) (arg4 : Memref sig .tc .smem S6 .f32) (harg4 : arg4.IsWhole) (arg5 : Memref sig .tc .vmem S2x1x512x1536 .bf16) (harg5 : arg5.IsWhole) (arg6 : Memref sig .tc .vmem S12x1536 .f32) (harg6 : arg6.IsWhole) (arg7 : Memref sig .tc .vmem S12x1536 .f32) (harg7 : arg7.IsWhole) (arg8 : Memref sig .tc .vmem S1536x64 .fp8e4m3) (harg8 : arg8.IsWhole) (arg9 : Memref sig .tc .vmem S1x64 .f32) (harg9 : arg9.IsWhole) (arg10 : Memref sig .tc .vmem S1x64 .f32) (harg10 : arg10.IsWhole) (arg11 : Memref sig .tc .vmem S1x16x16x128 .f32) (harg11 : arg11.IsWhole) (arg12 : Memref sig .tc .vmem S1x16x16x128 .f32) (harg12 : arg12.IsWhole) (arg13 : Memref sig .tc .vmem S1x16x16x128 .bf16) (harg13 : arg13.IsWhole) (arg14 : Memref sig .tc .vmem S2x1x512x1536 .fp8e4m3) (harg14 : arg14.IsWhole) (arg15 : Memref sig .tc .vmem S12x3072 .f32) (harg15 : arg15.IsWhole) (arg16 : Memref sig .tc .vmem S64x1536 .fp8e4m3) (harg16 : arg16.IsWhole) (arg17 : Memref sig .tc .vmem S512x128 .f32) (harg17 : arg17.IsWhole) (arg18 : Memref sig .tc .vmem S16x16x128 .f32) (harg18 : arg18.IsWhole) (v7 v11 : Vec Ideal S1x1536 .f32) (X : Vec Ideal S2x1x512x1536 .bf16) (sc sh : Fin 2 → Fin 1536 → EReal)

/-- One trip's stores. -/
theorem trip1_eq (k : Fin k0_t1_loop.trips) : ∃ (h1 : ∀ a, k0_off2 k a + S1x1x64x1536.size a ≤ S2x1x512x1536.size a) (h2 : ∀ a, k0_off3 k a + S64x128.size a ≤ S512x128.size a), tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 (harg5.unread X) k
    = ([⟨Rect.unit (k0_off2 k) S1x1x64x1536.size h1, k0_pay22 (F := Ideal) (k0_pay10 (k0_pay2 (k0_pay21 v7) v11 (View.readAt (Elt Ideal) arg5.view (Rect.unit (s := S2x1x512x1536) (k0_off2 k) S1x1x64x1536.size h1).toLoadRect (harg5.unread X))) (k0_pay3 (k0_pay21 v7) v11 (View.readAt (Elt Ideal) arg5.view (Rect.unit (s := S2x1x512x1536) (k0_off2 k) S1x1x64x1536.size h1).toLoadRect (harg5.unread X))) (k0_pay4 (k0_pay21 v7) v11 (View.readAt (Elt Ideal) arg5.view (Rect.unit (s := S2x1x512x1536) (k0_off2 k) S1x1x64x1536.size h1).toLoadRect (harg5.unread X))) (k0_pay5 (k0_pay21 v7) v11 (View.readAt (Elt Ideal) arg5.view (Rect.unit (s := S2x1x512x1536) (k0_off2 k) S1x1x64x1536.size h1).toLoadRect (harg5.unread X))) (k0_pay6 (k0_pay21 v7) v11 (View.readAt (Elt Ideal) arg5.view (Rect.unit (s := S2x1x512x1536) (k0_off2 k) S1x1x64x1536.size h1).toLoadRect (harg5.unread X))))⟩],
       [⟨Rect.unit (k0_off3 k) S64x128.size h2, k0_pay23 (F := Ideal) (k0_pay9 (k0_pay3 (k0_pay21 v7) v11 (View.readAt (Elt Ideal) arg5.view (Rect.unit (s := S2x1x512x1536) (k0_off2 k) S1x1x64x1536.size h1).toLoadRect (harg5.unread X))) (k0_pay4 (k0_pay21 v7) v11 (View.readAt (Elt Ideal) arg5.view (Rect.unit (s := S2x1x512x1536) (k0_off2 k) S1x1x64x1536.size h1).toLoadRect (harg5.unread X))) (k0_pay5 (k0_pay21 v7) v11 (View.readAt (Elt Ideal) arg5.view (Rect.unit (s := S2x1x512x1536) (k0_off2 k) S1x1x64x1536.size h1).toLoadRect (harg5.unread X))) (k0_pay6 (k0_pay21 v7) v11 (View.readAt (Elt Ideal) arg5.view (Rect.unit (s := S2x1x512x1536) (k0_off2 k) S1x1x64x1536.size h1).toLoadRect (harg5.unread X))))⟩]) := by
  refine ⟨?_, ?_, ?_⟩
  rotate_left 2
  · unfold tripL_k0_t1 trip_k0_t1
    with_unfolding_all rfl

theorem trip1_codes (hsc : Pay.rv v7 = sc 0) (hsh : Pay.rv v11 = sh 0) (k : Fin k0_t1_loop.trips) :
    ∀ p ∈ (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 (harg5.unread X) k).1, ∀ x, p.2 x = codesG X sc sh (p.1.emb x) := by
  obtain ⟨h1, h2, e⟩ := trip1_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 X k
  rw [e]
  intro p hp x
  obtain rfl := List.mem_singleton.mp hp
  have hk : k.val < 8 := k.isLt
  obtain ⟨z, z', r, q, rfl⟩ : ∃ (z z' : Fin 1) (r : Fin 64) (q : Fin 1536), x = ix4 z z' r q := ⟨x 0, x 1, x 2, x 3, eq_ix4 x⟩
  obtain rfl : z = 0 := Subsingleton.elim _ _
  obtain rfl : z' = 0 := Subsingleton.elim _ _
  refine (Pay.codes_at v7 v11 _ r q).trans ?_
  refine Eq.trans ?_ (congrArg (codesG X sc sh) (emb4 0 k.val hk _ (off2_eq k) h1 r q).symm)
  rw [hsc, hsh]
  show _ = crow kinv (fun k' => X (ix4 0 0 (row k.val hk r) k')) (sc 0) (sh 0) q
  congr 1
  funext k'
  exact chunk_at arg5 harg5 X 0 k.val hk _ (off2_eq k) h1 r k'

theorem trip1_scales (hsc : Pay.rv v7 = sc 0) (hsh : Pay.rv v11 = sh 0) (k : Fin k0_t1_loop.trips) :
    ∀ p ∈ (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 (harg5.unread X) k).2, ∀ x, p.2 x = scaleG X sc sh 0 (p.1.emb x) := by
  obtain ⟨h1, h2, e⟩ := trip1_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 X k
  rw [e]
  intro p hp x
  obtain rfl := List.mem_singleton.mp hp
  have hk : k.val < 8 := k.isLt
  obtain ⟨r, q, rfl⟩ : ∃ (r : Fin 64) (q : Fin 128), x = ix2 r q := ⟨x 0, x 1, eq_ix2 x⟩
  refine (Pay.scales_at v7 v11 _ r q).trans ?_
  refine Eq.trans ?_ (congrArg (scaleG X sc sh 0) (emb2 k.val hk _ (off3_eq k) h2 r q).symm)
  rw [hsc, hsh]
  show _ = kscale (amax (hrow (fun k' => X (ix4 0 0 (row k.val hk r) k')) (sc 0) (sh 0)))
  congr 3
  funext k'
  exact chunk_at arg5 harg5 X 0 k.val hk _ (off2_eq k) h1 r k'

theorem trip1_cover4 (k : Fin k0_t1_loop.trips) (r : Fin 512) (q : Fin 1536) (h0 : 64 * k.val ≤ r.val) (h1 : r.val < 64 * (k.val + 1)) :
    ∃ p ∈ (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 (harg5.unread X) k).1, (ix4 0 0 r q : S2x1x512x1536.Idx) ∈ p.1.set := by
  obtain ⟨i1, i2, e⟩ := trip1_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 X k
  rw [e]
  refine ⟨_, List.mem_singleton.mpr rfl, ?_⟩
  have hk : k.val < 8 := k.isLt
  have := emb4 0 k.val hk _ (off2_eq k) i1 ⟨r.val - 64 * k.val, by omega⟩ q
  have hr : row k.val hk ⟨r.val - 64 * k.val, by omega⟩ = r := Fin.ext (by show 64 * k.val + (r.val - 64 * k.val) = r.val; omega)
  rw [hr] at this
  rw [← this, ← Rect.map_emb_univ]
  exact Finset.mem_map_of_mem _ (Finset.mem_univ _)

theorem trip1_cover2 (k : Fin k0_t1_loop.trips) (r : Fin 512) (l : Fin 128) (h0 : 64 * k.val ≤ r.val) (h1 : r.val < 64 * (k.val + 1)) :
    ∃ p ∈ (tripL_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 (harg5.unread X) k).2, (ix2 r l : S512x128.Idx) ∈ p.1.set := by
  obtain ⟨i1, i2, e⟩ := trip1_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 X k
  rw [e]
  refine ⟨_, List.mem_singleton.mpr rfl, ?_⟩
  have hk : k.val < 8 := k.isLt
  have := emb2 k.val hk _ (off3_eq k) i2 ⟨r.val - 64 * k.val, by omega⟩ l
  have hr : row k.val hk ⟨r.val - 64 * k.val, by omega⟩ = r := Fin.ext (by show 64 * k.val + (r.val - 64 * k.val) = r.val; omega)
  rw [hr] at this
  rw [← this, ← Rect.map_emb_univ]
  exact Finset.mem_map_of_mem _ (Finset.mem_univ _)

/-- WHAT THE LOOP LEAVES after `n` trips. -/
theorem loop1_ok (hsc : Pay.rv v7 = sc 0) (hsh : Pay.rv v11 = sh 0) : ∀ n : ℕ, n ≤ 8 →
    (∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 (harg5.unread X) n).1, ∀ x, p.2 x = codesG X sc sh (p.1.emb x)) ∧
    (∀ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 (harg5.unread X) n).2, ∀ x, p.2 x = scaleG X sc sh 0 (p.1.emb x)) ∧
    (∀ (r : Fin 512) (q : Fin 1536), r.val < 64 * n → ∃ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 (harg5.unread X) n).1, (ix4 0 0 r q : S2x1x512x1536.Idx) ∈ p.1.set) ∧
    (∀ (r : Fin 512) (l : Fin 128), r.val < 64 * n → ∃ p ∈ (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 (harg5.unread X) n).2, (ix2 r l : S512x128.Idx) ∈ p.1.set)
  | 0, _ => ⟨fun p hp => absurd hp List.not_mem_nil, fun p hp => absurd hp List.not_mem_nil, fun _ _ h => absurd h (by omega), fun _ _ h => absurd h (by omega)⟩
  | n + 1, hn => by
    obtain ⟨ih1, ih2, ih3, ih4⟩ := loop1_ok hsc hsh n (by omega)
    have hs := pb_k0_t1_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 (harg5.unread X) (⟨n, hn⟩ : Fin k0_t1_loop.trips)
    have hs' : pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 (harg5.unread X) (n + 1) = _ := hs
    rw [hs']
    refine ⟨fun p hp => ?_, fun p hp => ?_, fun r q hr => ?_, fun r l hr => ?_⟩
    · rcases List.mem_append.mp hp with hp | hp
      · exact trip1_codes c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 X sc sh hsc hsh _ p hp
      · exact ih1 p hp
    · rcases List.mem_append.mp hp with hp | hp
      · exact trip1_scales c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 X sc sh hsc hsh _ p hp
      · exact ih2 p hp
    · by_cases hlt : r.val < 64 * n
      · obtain ⟨p, hp, hm⟩ := ih3 r q hlt
        exact ⟨p, List.mem_append_right _ hp, hm⟩
      · obtain ⟨p, hp, hm⟩ := trip1_cover4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 X ⟨n, hn⟩ r q (by show 64 * n ≤ r.val; omega) hr
        exact ⟨p, List.mem_append_left _ hp, hm⟩
    · by_cases hlt : r.val < 64 * n
      · obtain ⟨p, hp, hm⟩ := ih4 r l hlt
        exact ⟨p, List.mem_append_right _ hp, hm⟩
      · obtain ⟨p, hp, hm⟩ := trip1_cover2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 X ⟨n, hn⟩ r l (by show 64 * n ≤ r.val; omega) hr
        exact ⟨p, List.mem_append_left _ hp, hm⟩

end loop1

section loop2
variable (c : Dev nD) (i : grid0.Coords) (arg2 : Memref sig .tc .smem S6 .f32) (harg2 : arg2.IsWhole) (arg3 : Memref sig .tc .smem S6 .f32) (harg3 : arg3.IsWhole) (arg4 : Memref sig .tc .smem S6 .f32) (harg4 : arg4.IsWhole) (arg5 : Memref sig .tc .vmem S2x1x512x1536 .bf16) (harg5 : arg5.IsWhole) (arg6 : Memref sig .tc .vmem S12x1536 .f32) (harg6 : arg6.IsWhole) (arg7 : Memref sig .tc .vmem S12x1536 .f32) (harg7 : arg7.IsWhole) (arg8 : Memref sig .tc .vmem S1536x64 .fp8e4m3) (harg8 : arg8.IsWhole) (arg9 : Memref sig .tc .vmem S1x64 .f32) (harg9 : arg9.IsWhole) (arg10 : Memref sig .tc .vmem S1x64 .f32) (harg10 : arg10.IsWhole) (arg11 : Memref sig .tc .vmem S1x16x16x128 .f32) (harg11 : arg11.IsWhole) (arg12 : Memref sig .tc .vmem S1x16x16x128 .f32) (harg12 : arg12.IsWhole) (arg13 : Memref sig .tc .vmem S1x16x16x128 .bf16) (harg13 : arg13.IsWhole) (arg14 : Memref sig .tc .vmem S2x1x512x1536 .fp8e4m3) (harg14 : arg14.IsWhole) (arg15 : Memref sig .tc .vmem S12x3072 .f32) (harg15 : arg15.IsWhole) (arg16 : Memref sig .tc .vmem S64x1536 .fp8e4m3) (harg16 : arg16.IsWhole) (arg17 : Memref sig .tc .vmem S512x128 .f32) (harg17 : arg17.IsWhole) (arg18 : Memref sig .tc .vmem S16x16x128 .f32) (harg18 : arg18.IsWhole) (arg0 : BitVec 32) (v25 : FVec Ideal S1x512 .f32) (v31 : Vec Ideal S64x1536 .fp8e4m3) (v49 v53 : Vec Ideal S1x1536 .f32) (X : Vec Ideal S2x1x512x1536 .bf16) (sc sh : Fin 2 → Fin 1536 → EReal)

/-- One trip's stores. -/
theorem trip2_eq (k : Fin k0_t2_loop.trips) : ∃ (h1 : ∀ a, k0_off5 k a + S1x1x64x1536.size a ≤ S2x1x512x1536.size a) (h2 : ∀ a, k0_off6 k a + S64x128.size a ≤ S512x128.size a), tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 (harg5.unread X) k
    = ([⟨Rect.unit (k0_off5 k) S1x1x64x1536.size h1, k0_pay27 (F := Ideal) (k0_pay19 (k0_pay11 (k0_pay26 v49) v53 (View.readAt (Elt Ideal) arg5.view (Rect.unit (s := S2x1x512x1536) (k0_off5 k) S1x1x64x1536.size h1).toLoadRect (harg5.unread X))) (k0_pay12 (k0_pay26 v49) v53 (View.readAt (Elt Ideal) arg5.view (Rect.unit (s := S2x1x512x1536) (k0_off5 k) S1x1x64x1536.size h1).toLoadRect (harg5.unread X))) (k0_pay13 (k0_pay26 v49) v53 (View.readAt (Elt Ideal) arg5.view (Rect.unit (s := S2x1x512x1536) (k0_off5 k) S1x1x64x1536.size h1).toLoadRect (harg5.unread X))) (k0_pay14 (k0_pay26 v49) v53 (View.readAt (Elt Ideal) arg5.view (Rect.unit (s := S2x1x512x1536) (k0_off5 k) S1x1x64x1536.size h1).toLoadRect (harg5.unread X))) (k0_pay15 (k0_pay26 v49) v53 (View.readAt (Elt Ideal) arg5.view (Rect.unit (s := S2x1x512x1536) (k0_off5 k) S1x1x64x1536.size h1).toLoadRect (harg5.unread X))))⟩],
       [⟨Rect.unit (k0_off6 k) S64x128.size h2, k0_pay28 (F := Ideal) (k0_pay18 (k0_pay12 (k0_pay26 v49) v53 (View.readAt (Elt Ideal) arg5.view (Rect.unit (s := S2x1x512x1536) (k0_off5 k) S1x1x64x1536.size h1).toLoadRect (harg5.unread X))) (k0_pay13 (k0_pay26 v49) v53 (View.readAt (Elt Ideal) arg5.view (Rect.unit (s := S2x1x512x1536) (k0_off5 k) S1x1x64x1536.size h1).toLoadRect (harg5.unread X))) (k0_pay14 (k0_pay26 v49) v53 (View.readAt (Elt Ideal) arg5.view (Rect.unit (s := S2x1x512x1536) (k0_off5 k) S1x1x64x1536.size h1).toLoadRect (harg5.unread X))) (k0_pay15 (k0_pay26 v49) v53 (View.readAt (Elt Ideal) arg5.view (Rect.unit (s := S2x1x512x1536) (k0_off5 k) S1x1x64x1536.size h1).toLoadRect (harg5.unread X))))⟩]) := by
  refine ⟨?_, ?_, ?_⟩
  rotate_left 2
  · unfold tripL_k0_t2 trip_k0_t2
    with_unfolding_all rfl

theorem trip2_codes (hsc : Pay.rv v49 = sc 1) (hsh : Pay.rv v53 = sh 1) (k : Fin k0_t2_loop.trips) :
    ∀ p ∈ (tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 (harg5.unread X) k).1, ∀ x, p.2 x = codesG X sc sh (p.1.emb x) := by
  obtain ⟨h1, h2, e⟩ := trip2_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 X k
  rw [e]
  intro p hp x
  obtain rfl := List.mem_singleton.mp hp
  have hk : k.val < 8 := k.isLt
  obtain ⟨z, z', r, q, rfl⟩ : ∃ (z z' : Fin 1) (r : Fin 64) (q : Fin 1536), x = ix4 z z' r q := ⟨x 0, x 1, x 2, x 3, eq_ix4 x⟩
  obtain rfl : z = 0 := Subsingleton.elim _ _
  obtain rfl : z' = 0 := Subsingleton.elim _ _
  refine (Pay.codes_at v49 v53 _ r q).trans ?_
  refine Eq.trans ?_ (congrArg (codesG X sc sh) (emb4 1 k.val hk _ (off5_eq k) h1 r q).symm)
  rw [hsc, hsh]
  show _ = crow kinv (fun k' => X (ix4 1 0 (row k.val hk r) k')) (sc 1) (sh 1) q
  congr 1
  funext k'
  exact chunk_at arg5 harg5 X 1 k.val hk _ (off5_eq k) h1 r k'

theorem trip2_scales (hsc : Pay.rv v49 = sc 1) (hsh : Pay.rv v53 = sh 1) (k : Fin k0_t2_loop.trips) :
    ∀ p ∈ (tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 (harg5.unread X) k).2, ∀ x, p.2 x = scaleG X sc sh 1 (p.1.emb x) := by
  obtain ⟨h1, h2, e⟩ := trip2_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 X k
  rw [e]
  intro p hp x
  obtain rfl := List.mem_singleton.mp hp
  have hk : k.val < 8 := k.isLt
  obtain ⟨r, q, rfl⟩ : ∃ (r : Fin 64) (q : Fin 128), x = ix2 r q := ⟨x 0, x 1, eq_ix2 x⟩
  refine (Pay.scales_at v49 v53 _ r q).trans ?_
  refine Eq.trans ?_ (congrArg (scaleG X sc sh 1) (emb2 k.val hk _ (off6_eq k) h2 r q).symm)
  rw [hsc, hsh]
  show _ = kscale (amax (hrow (fun k' => X (ix4 1 0 (row k.val hk r) k')) (sc 1) (sh 1)))
  congr 3
  funext k'
  exact chunk_at arg5 harg5 X 1 k.val hk _ (off5_eq k) h1 r k'

theorem trip2_cover4 (k : Fin k0_t2_loop.trips) (r : Fin 512) (q : Fin 1536) (h0 : 64 * k.val ≤ r.val) (h1 : r.val < 64 * (k.val + 1)) :
    ∃ p ∈ (tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 (harg5.unread X) k).1, (ix4 1 0 r q : S2x1x512x1536.Idx) ∈ p.1.set := by
  obtain ⟨i1, i2, e⟩ := trip2_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 X k
  rw [e]
  refine ⟨_, List.mem_singleton.mpr rfl, ?_⟩
  have hk : k.val < 8 := k.isLt
  have := emb4 1 k.val hk _ (off5_eq k) i1 ⟨r.val - 64 * k.val, by omega⟩ q
  have hr : row k.val hk ⟨r.val - 64 * k.val, by omega⟩ = r := Fin.ext (by show 64 * k.val + (r.val - 64 * k.val) = r.val; omega)
  rw [hr] at this
  rw [← this, ← Rect.map_emb_univ]
  exact Finset.mem_map_of_mem _ (Finset.mem_univ _)

theorem trip2_cover2 (k : Fin k0_t2_loop.trips) (r : Fin 512) (l : Fin 128) (h0 : 64 * k.val ≤ r.val) (h1 : r.val < 64 * (k.val + 1)) :
    ∃ p ∈ (tripL_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 (harg5.unread X) k).2, (ix2 r l : S512x128.Idx) ∈ p.1.set := by
  obtain ⟨i1, i2, e⟩ := trip2_eq c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 X k
  rw [e]
  refine ⟨_, List.mem_singleton.mpr rfl, ?_⟩
  have hk : k.val < 8 := k.isLt
  have := emb2 k.val hk _ (off6_eq k) i2 ⟨r.val - 64 * k.val, by omega⟩ l
  have hr : row k.val hk ⟨r.val - 64 * k.val, by omega⟩ = r := Fin.ext (by show 64 * k.val + (r.val - 64 * k.val) = r.val; omega)
  rw [hr] at this
  rw [← this, ← Rect.map_emb_univ]
  exact Finset.mem_map_of_mem _ (Finset.mem_univ _)

/-- WHAT THE LOOP LEAVES after `n` trips. -/
theorem loop2_ok (hsc : Pay.rv v49 = sc 1) (hsh : Pay.rv v53 = sh 1) : ∀ n : ℕ, n ≤ 8 →
    (∀ p ∈ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 (harg5.unread X) n).1, ∀ x, p.2 x = codesG X sc sh (p.1.emb x)) ∧
    (∀ p ∈ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 (harg5.unread X) n).2, ∀ x, p.2 x = scaleG X sc sh 1 (p.1.emb x)) ∧
    (∀ (r : Fin 512) (q : Fin 1536), r.val < 64 * n → ∃ p ∈ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 (harg5.unread X) n).1, (ix4 1 0 r q : S2x1x512x1536.Idx) ∈ p.1.set) ∧
    (∀ (r : Fin 512) (l : Fin 128), r.val < 64 * n → ∃ p ∈ (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 (harg5.unread X) n).2, (ix2 r l : S512x128.Idx) ∈ p.1.set)
  | 0, _ => ⟨fun p hp => absurd hp List.not_mem_nil, fun p hp => absurd hp List.not_mem_nil, fun _ _ h => absurd h (by omega), fun _ _ h => absurd h (by omega)⟩
  | n + 1, hn => by
    obtain ⟨ih1, ih2, ih3, ih4⟩ := loop2_ok hsc hsh n (by omega)
    have hs := pb_k0_t2_succ (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 (harg5.unread X) (⟨n, hn⟩ : Fin k0_t2_loop.trips)
    have hs' : pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 (harg5.unread X) (n + 1) = _ := hs
    rw [hs']
    refine ⟨fun p hp => ?_, fun p hp => ?_, fun r q hr => ?_, fun r l hr => ?_⟩
    · rcases List.mem_append.mp hp with hp | hp
      · exact trip2_codes c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 X sc sh hsc hsh _ p hp
      · exact ih1 p hp
    · rcases List.mem_append.mp hp with hp | hp
      · exact trip2_scales c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 X sc sh hsc hsh _ p hp
      · exact ih2 p hp
    · by_cases hlt : r.val < 64 * n
      · obtain ⟨p, hp, hm⟩ := ih3 r q hlt
        exact ⟨p, List.mem_append_right _ hp, hm⟩
      · obtain ⟨p, hp, hm⟩ := trip2_cover4 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 X ⟨n, hn⟩ r q (by show 64 * n ≤ r.val; omega) hr
        exact ⟨p, List.mem_append_left _ hp, hm⟩
    · by_cases hlt : r.val < 64 * n
      · obtain ⟨p, hp, hm⟩ := ih4 r l hlt
        exact ⟨p, List.mem_append_right _ hp, hm⟩
      · obtain ⟨p, hp, hm⟩ := trip2_cover2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 X ⟨n, hn⟩ r l (by show 64 * n ≤ r.val; omega) hr
        exact ⟨p, List.mem_append_left _ hp, hm⟩

end loop2

end Cert.Loop

end
-- ==== Proof.Guide.lean ====
/- The two products of a grid point and their guided combination, read at an index. -/
module

public import proofs.«01_k».proof.Proof.Gen.KernelIdeal.Skeleton
public import proofs.«01_k».proof.Proof.Spec

@[expose] public section

set_option maxRecDepth 16384

noncomputable section

namespace Cert.Guide
open Idealize.ShloMosaic Cert.KernelIdeal Cert.KernelIdeal.Gen Cert.Row
open scoped BigOperators

/-- A strip of 512 scales from four blocks of 128 rows, whose first columns hold them. -/
theorem strip_at (v13 v16 v19 v22 : Vec Ideal S128x128 .f32) (f : Fin 512 → EReal)
    (h0 : ∀ q : Fin 128, v13 (ix2 q 0) = f ⟨0 + q.val, by omega⟩) (h1 : ∀ q : Fin 128, v16 (ix2 q 0) = f ⟨128 + q.val, by omega⟩)
    (h2 : ∀ q : Fin 128, v19 (ix2 q 0) = f ⟨256 + q.val, by omega⟩) (h3 : ∀ q : Fin 128, v22 (ix2 q 0) = f ⟨384 + q.val, by omega⟩)
    (j : Fin 512) : (k0_pay24 (F := Ideal) v13 v16 v19 v22 (ix2 0 j) : EReal) = f j := by
  pointwise [k0_pay24]
  by_cases a : j.val < 128
  · refine (dif_pos a).trans ((h0 _).trans (congrArg f (Fin.ext ?_)))
    show 0 + j.val = j.val; omega
  refine (dif_neg a).trans ?_
  by_cases b : j.val - 128 < 128
  · refine (dif_pos b).trans ((h1 _).trans (congrArg f (Fin.ext ?_)))
    show 128 + (j.val - 128) = j.val; omega
  refine (dif_neg b).trans ?_
  by_cases d : j.val - 128 - 128 < 128
  · refine (dif_pos d).trans ((h2 _).trans (congrArg f (Fin.ext ?_)))
    show 256 + (j.val - 128 - 128) = j.val; omega
  refine (dif_neg d).trans ((h3 _).trans (congrArg f (Fin.ext ?_)))
  show 384 + (j.val - 128 - 128 - 128) = j.val; omega

theorem strip_eq (v13 v16 v19 v22 : Vec Ideal S128x128 .f32) :
    k0_pay33 (F := Ideal) (k0_pay29 v13) (k0_pay30 v16) (k0_pay31 v19) (k0_pay32 v22) = k0_pay24 v13 v16 v19 v22 := rfl

/-- One product, scaled and biased. -/
theorem prod_at (st : FVec Ideal S1x512 .f32) (wt : Vec Ideal S64x1536 .fp8e4m3) (C : Vec Ideal S1x1x512x1536 .fp8e4m3)
    (ws bo : Vec Ideal S1x64 .f32) (o : Fin 64) (j : Fin 512) :
    (k0_pay25 (F := Ideal) st wt C ws bo (ix2 o j) : EReal)
      = (∑ k : Fin 1536, (C (ix4 0 0 j k) : EReal) * wt (ix2 o k)) * st (ix2 0 j) * ws (ix2 0 o) + bo (ix2 0 o) := by
  pointwise [k0_pay25]
  rw [Finset.sum_congr rfl fun x _ => mul_comm (wt (ix2 o x) : EReal) (C (ix4 0 0 j x))]

/-- The guided block. -/
theorem mix_at (v46 : FVec Ideal S64x512 .f32) (v57 v60 v63 v66 : FVec Ideal S1x128 .f32) (wt : Vec Ideal S64x1536 .fp8e4m3)
    (C : Vec Ideal S1x1x512x1536 .fp8e4m3) (ws bo : Vec Ideal S1x64 .f32) (g : EReal) (o : Fin 64) (j : Fin 512) :
    (k0_pay34 (F := Ideal) v46 v57 v60 v63 v66 wt C ws bo g (ix2 o j) : EReal)
      = mix g (v46 (ix2 o j)) (k0_pay25 (k0_pay33 v57 v60 v63 v66) wt C ws bo (ix2 o j)) := rfl

/-- The latent block moved, and the velocity block. -/
theorem lat_at (d : EReal) (V : Vec Ideal S16x16x128 .f32) (x : Vec Ideal S1x16x16x128 .f32) (c r : Fin 16) (l : Fin 128) :
    (k0_pay95 (F := Ideal) d V x (ix4 0 c r l) : EReal) = x (ix4 0 c r l) + d * V (ix3 c r l) := by
  pointwise [k0_pay95]

theorem vel_at (V : Vec Ideal S16x16x128 .f32) (c r : Fin 16) (l : Fin 128) :
    (k0_pay1 (F := Ideal) (k0_pay96 V) (ix4 0 c r l) : EReal) = V (ix3 c r l) := by
  pointwise [k0_pay1, k0_pay96]

/-- The transposed weights. -/
theorem wt_at (w : Vec Ideal S1536x64 .fp8e4m3) (o : Fin 64) (k : Fin 1536) :
    (k0_pay20 (F := Ideal) w (ix2 o k) : EReal) = w (ix2 k o) := by
  pointwise [k0_pay20]

end Cert.Guide

end
-- ==== Proof.Stage.lean ====
/- The image stage: the sixteen image rows a grid point gathers from the guided block, read at an index. -/
module

public import proofs.«01_k».proof.Proof.Gen.KernelIdeal.Skeleton
public import proofs.«01_k».proof.Proof.Spec
public import Idealize.ShloMosaic.Lib.Pipeline.FrameBody
public import Idealize.ShloMosaic.Lib.Pipeline.Value
public import Idealize.ShloMosaic.Lib.Ring
public import Idealize.ShloMosaic.Lib.Tactic

@[expose] public section

set_option maxRecDepth 16384

noncomputable section

namespace Cert.Stage
open Idealize.ShloMosaic Cert.KernelIdeal Cert.KernelIdeal.Gen

/-- The lane number. -/
def v100 : IVec S16x128 32 := iota .tc S16x128 32 [1] iota_S16x128_d1_w32

/-- A gather along the lanes, of negative indices from the end. -/
def gat (A : FVec Ideal S16x128 .f32) (P : IVec S16x128 32) : FVec Ideal S16x128 .f32 :=
  dynamicGather 1 A (shapeCast S16x128 (shapeCast S16x128x1 (select (cmpi .slt P (broadcast S16x128 0#32))
    (addi P (broadcast S16x128 128#32)) P) shapeCasts_S16x128_S16x128x1) shapeCasts_S16x128x1_S16x128)

/-- An even image row from a block of columns, and an odd one. -/
def rowE (W : FVec Ideal S64x128 .f32) (P : IVec S16x128 32) : FVec Ideal S16x1x128 .f32 :=
  shapeCast S16x1x128 (select k0_pay36 (gat (extractStridedSlice S16x128 ![0, 0] W slices_S64x128_o0_0_S16x128) P)
    (gat (extractStridedSlice S16x128 ![16, 0] W slices_S64x128_o16_0_S16x128) P)) shapeCasts_S16x128_S16x1x128
def rowO (W : FVec Ideal S64x128 .f32) (P : IVec S16x128 32) : FVec Ideal S16x1x128 .f32 :=
  shapeCast S16x1x128 (select k0_pay36 (gat (extractStridedSlice S16x128 ![32, 0] W slices_S64x128_o32_0_S16x128) P)
    (gat (extractStridedSlice S16x128 ![48, 0] W slices_S64x128_o48_0_S16x128) P)) shapeCasts_S16x128_S16x1x128

theorem gat_at (A : FVec Ideal S16x128 .f32) (P : IVec S16x128 32) (c : Fin 16) (l n : Fin 128)
    (h : P (ix2 c l) = BitVec.ofNat 32 n.val) : gat A P (ix2 c l) = A (ix2 c n) := by
  have hw : (select (cmpi .slt P (broadcast S16x128 0#32)) (addi P (broadcast S16x128 128#32)) P) (ix2 c l) = BitVec.ofNat 32 n.val := by
    simp only [select, cmpi, addi, broadcast, h]
    clear h
    revert n; decide +kernel
  unfold gat
  generalize select (cmpi .slt P (broadcast S16x128 0#32)) (addi P (broadcast S16x128 128#32)) P = Q at hw ⊢
  have hs : shapeCast S16x128 (shapeCast S16x128x1 Q shapeCasts_S16x128_S16x128x1) shapeCasts_S16x128x1_S16x128 = Q := shapeCast_shapeCast ..
  rw [hs, dynamicGather_apply]
  refine congrArg A (funext fun b => ?_)
  match b with
  | ⟨0, _⟩ => rfl
  | ⟨1, _⟩ =>
    refine Fin.ext ?_
    show (Q (ix2 c l)).toNat % 128 = n.val
    rw [hw, BitVec.toNat_ofNat, Nat.mod_eq_of_lt (by omega : n.val < 2 ^ 32), Nat.mod_eq_of_lt n.isLt]

/-- The parity mask. -/
theorem mask_at (c : Fin 16) (l : Fin 128) : k0_pay36 (ix2 c l) = BitVec.ofBool (decide (l.val % 2 = 0)) := by
  pointwise [k0_pay36]
  revert l; decide +kernel

/-- Where a row's entry comes from in a block of columns. -/
def rw_ (p : Fin 2) (c : Fin 16) (l : Fin 128) : Fin 64 := ⟨(p.val * 2 + l.val % 2) * 16 + c.val, by omega⟩

theorem rowE_at (W : FVec Ideal S64x128 .f32) (P : IVec S16x128 32) (c : Fin 16) (l n : Fin 128)
    (h : P (ix2 c l) = BitVec.ofNat 32 n.val) : rowE W P (ix3 c 0 l) = W (ix2 (rw_ 0 c l) n) := by
  have e : rowE W P (ix3 c 0 l) = Scalar.select (k0_pay36 (ix2 c l)) (gat (extractStridedSlice S16x128 ![0, 0] W slices_S64x128_o0_0_S16x128) P (ix2 c l))
      (gat (extractStridedSlice S16x128 ![16, 0] W slices_S64x128_o16_0_S16x128) P (ix2 c l)) := by
    unfold rowE
    generalize gat (extractStridedSlice S16x128 ![0, 0] W slices_S64x128_o0_0_S16x128) P = A
    generalize gat (extractStridedSlice S16x128 ![16, 0] W slices_S64x128_o16_0_S16x128) P = B
    generalize k0_pay36 = m
    pointwise []
  rw [e, gat_at _ _ c l n h, gat_at _ _ c l n h, mask_at]
  pointwise []
  rcases Nat.mod_two_eq_zero_or_one l.val with hl | hl
  · rw [if_pos hl]
    exact congrArg W (congrArg (ix2 · n) (Fin.ext (by show c.val = (0 * 2 + l.val % 2) * 16 + c.val; omega)))
  · rw [if_neg (by omega)]
    exact congrArg W (congrArg (ix2 · n) (Fin.ext (by show 16 + c.val = (0 * 2 + l.val % 2) * 16 + c.val; omega)))

theorem rowO_at (W : FVec Ideal S64x128 .f32) (P : IVec S16x128 32) (c : Fin 16) (l n : Fin 128)
    (h : P (ix2 c l) = BitVec.ofNat 32 n.val) : rowO W P (ix3 c 0 l) = W (ix2 (rw_ 1 c l) n) := by
  have e : rowO W P (ix3 c 0 l) = Scalar.select (k0_pay36 (ix2 c l)) (gat (extractStridedSlice S16x128 ![32, 0] W slices_S64x128_o32_0_S16x128) P (ix2 c l))
      (gat (extractStridedSlice S16x128 ![48, 0] W slices_S64x128_o48_0_S16x128) P (ix2 c l)) := by
    unfold rowO
    generalize gat (extractStridedSlice S16x128 ![32, 0] W slices_S64x128_o32_0_S16x128) P = A
    generalize gat (extractStridedSlice S16x128 ![48, 0] W slices_S64x128_o48_0_S16x128) P = B
    generalize k0_pay36 = m
    pointwise []
  rw [e, gat_at _ _ c l n h, gat_at _ _ c l n h, mask_at]
  pointwise []
  rcases Nat.mod_two_eq_zero_or_one l.val with hl | hl
  · rw [if_pos hl]
    exact congrArg W (congrArg (ix2 · n) (Fin.ext (by show 32 + c.val = (1 * 2 + l.val % 2) * 16 + c.val; omega)))
  · rw [if_neg (by omega)]
    exact congrArg W (congrArg (ix2 · n) (Fin.ext (by show 48 + c.val = (1 * 2 + l.val % 2) * 16 + c.val; omega)))

/-- The column a row's entry comes from, in its block. -/
def col0 (l : Fin 128) : Fin 128 := ⟨l.val / 2, by omega⟩
def col1 (l : Fin 128) : Fin 128 := ⟨l.val / 2 + 64, by omega⟩

theorem idx0_at (c : Fin 16) (l : Fin 128) : (k0_pay40 v100 2#32 k0_pay38 k0_pay39) (ix2 c l) = BitVec.ofNat 32 (col0 l).val := by
  pointwise [k0_pay38, k0_pay39, k0_pay40, v100]
  revert l; decide +kernel

theorem idx1_at (c : Fin 16) (l : Fin 128) : (k0_pay47 (k0_pay46 v100)) (ix2 c l) = BitVec.ofNat 32 (col1 l).val := by
  pointwise [k0_pay46, k0_pay47, v100]
  revert l; decide +kernel

theorem idx2_at (c : Fin 16) (l : Fin 128) : (k0_pay52 v100) (ix2 c l) = BitVec.ofNat 32 (col0 l).val := by
  pointwise [k0_pay52, v100]
  revert l; decide +kernel

theorem idx3_at (c : Fin 16) (l : Fin 128) : (k0_pay60 v100 2#32 (k0_pay58 v100) (k0_pay59 v100)) (ix2 c l) = BitVec.ofNat 32 (col1 l).val := by
  pointwise [k0_pay58, k0_pay59, k0_pay60, v100]
  revert l; decide +kernel

theorem idx4_at (c : Fin 16) (l : Fin 128) : (k0_pay68 v100) (ix2 c l) = BitVec.ofNat 32 (col0 l).val := by
  pointwise [k0_pay68, v100]
  revert l; decide +kernel

theorem idx5_at (c : Fin 16) (l : Fin 128) : (k0_pay77 v100 2#32 (k0_pay74 v100) (k0_pay75 v100) (k0_pay76 v100)) (ix2 c l) = BitVec.ofNat 32 (col1 l).val := by
  pointwise [k0_pay74, k0_pay75, k0_pay76, k0_pay77, v100]
  revert l; decide +kernel

theorem idx6_at (c : Fin 16) (l : Fin 128) : (k0_pay85 v100) (ix2 c l) = BitVec.ofNat 32 (col0 l).val := by
  pointwise [k0_pay85, v100]
  revert l; decide +kernel

theorem idx7_at (c : Fin 16) (l : Fin 128) : (k0_pay91 v100 2#32) (ix2 c l) = BitVec.ofNat 32 (col1 l).val := by
  pointwise [k0_pay91, v100]
  revert l; decide +kernel

theorem k0_pay45_at (M : FVec Ideal S64x512 .f32) (o : Fin 64) (n : Fin 128) :
    k0_pay45 M (ix2 o n) = M (ix2 o ⟨0 + n.val, by omega⟩) := by
  pointwise [k0_pay45]

theorem k0_pay51_at (M : FVec Ideal S64x512 .f32) (o : Fin 64) (n : Fin 128) :
    k0_pay51 M (ix2 o n) = M (ix2 o ⟨128 + n.val, by omega⟩) := by
  pointwise [k0_pay51]

theorem k0_pay57_at (M : FVec Ideal S64x512 .f32) (o : Fin 64) (n : Fin 128) :
    k0_pay57 M (ix2 o n) = M (ix2 o ⟨128 + n.val, by omega⟩) := by
  pointwise [k0_pay57]

theorem k0_pay67_at (M : FVec Ideal S64x512 .f32) (o : Fin 64) (n : Fin 128) :
    k0_pay67 M (ix2 o n) = M (ix2 o ⟨256 + n.val, by omega⟩) := by
  pointwise [k0_pay67]

theorem k0_pay73_at (M : FVec Ideal S64x512 .f32) (o : Fin 64) (n : Fin 128) :
    k0_pay73 M (ix2 o n) = M (ix2 o ⟨256 + n.val, by omega⟩) := by
  pointwise [k0_pay73]

theorem k0_pay84_at (M : FVec Ideal S64x512 .f32) (o : Fin 64) (n : Fin 128) :
    k0_pay84 M (ix2 o n) = M (ix2 o ⟨384 + n.val, by omega⟩) := by
  pointwise [k0_pay84]

theorem k0_pay90_at (M : FVec Ideal S64x512 .f32) (o : Fin 64) (n : Fin 128) :
    k0_pay90 M (ix2 o n) = M (ix2 o ⟨384 + n.val, by omega⟩) := by
  pointwise [k0_pay90]

theorem row0_at (M : FVec Ideal S64x512 .f32) (c : Fin 16) (l : Fin 128) :
    (k0_pay41 v100 k0_pay36 (k0_pay45 M) 2#32 k0_pay38 k0_pay39) (ix3 c 0 l) = M (ix2 (rw_ 0 c l) ⟨0 + (col0 l).val, by omega⟩) := by
  have e : (k0_pay41 v100 k0_pay36 (k0_pay45 M) 2#32 k0_pay38 k0_pay39) = rowE (k0_pay45 M) (k0_pay40 v100 2#32 k0_pay38 k0_pay39) := rfl
  rw [e, rowE_at _ _ c l _ (idx0_at c l), k0_pay45_at]

theorem row1_at (M : FVec Ideal S64x512 .f32) (c : Fin 16) (l : Fin 128) :
    (k0_pay44 k0_pay36 (k0_pay40 v100 2#32 k0_pay38 k0_pay39) (k0_pay42 (k0_pay45 M)) (k0_pay43 (k0_pay45 M))) (ix3 c 0 l) = M (ix2 (rw_ 1 c l) ⟨0 + (col0 l).val, by omega⟩) := by
  have e : (k0_pay44 k0_pay36 (k0_pay40 v100 2#32 k0_pay38 k0_pay39) (k0_pay42 (k0_pay45 M)) (k0_pay43 (k0_pay45 M))) = rowO (k0_pay45 M) (k0_pay40 v100 2#32 k0_pay38 k0_pay39) := rfl
  rw [e, rowO_at _ _ c l _ (idx0_at c l), k0_pay45_at]

theorem row2_at (M : FVec Ideal S64x512 .f32) (c : Fin 16) (l : Fin 128) :
    (k0_pay48 k0_pay36 (k0_pay45 M) (k0_pay46 v100)) (ix3 c 0 l) = M (ix2 (rw_ 0 c l) ⟨0 + (col1 l).val, by omega⟩) := by
  have e : (k0_pay48 k0_pay36 (k0_pay45 M) (k0_pay46 v100)) = rowE (k0_pay45 M) (k0_pay47 (k0_pay46 v100)) := rfl
  rw [e, rowE_at _ _ c l _ (idx1_at c l), k0_pay45_at]

theorem row3_at (M : FVec Ideal S64x512 .f32) (c : Fin 16) (l : Fin 128) :
    (k0_pay50 (k0_pay49 k0_pay36 (k0_pay45 M) (k0_pay46 v100))) (ix3 c 0 l) = M (ix2 (rw_ 1 c l) ⟨0 + (col1 l).val, by omega⟩) := by
  have e : (k0_pay50 (k0_pay49 k0_pay36 (k0_pay45 M) (k0_pay46 v100))) = rowO (k0_pay45 M) (k0_pay47 (k0_pay46 v100)) := rfl
  rw [e, rowO_at _ _ c l _ (idx1_at c l), k0_pay45_at]

theorem row4_at (M : FVec Ideal S64x512 .f32) (c : Fin 16) (l : Fin 128) :
    (k0_pay55 k0_pay36 (k0_pay53 M v100) (k0_pay54 M v100)) (ix3 c 0 l) = M (ix2 (rw_ 0 c l) ⟨128 + (col0 l).val, by omega⟩) := by
  have e : (k0_pay55 k0_pay36 (k0_pay53 M v100) (k0_pay54 M v100)) = rowE (k0_pay51 M) (k0_pay52 v100) := rfl
  rw [e, rowE_at _ _ c l _ (idx2_at c l), k0_pay51_at]

theorem row5_at (M : FVec Ideal S64x512 .f32) (c : Fin 16) (l : Fin 128) :
    (k0_pay56 k0_pay36 (k0_pay51 M) (k0_pay52 v100)) (ix3 c 0 l) = M (ix2 (rw_ 1 c l) ⟨128 + (col0 l).val, by omega⟩) := by
  have e : (k0_pay56 k0_pay36 (k0_pay51 M) (k0_pay52 v100)) = rowO (k0_pay51 M) (k0_pay52 v100) := rfl
  rw [e, rowO_at _ _ c l _ (idx2_at c l), k0_pay51_at]

theorem row6_at (M : FVec Ideal S64x512 .f32) (c : Fin 16) (l : Fin 128) :
    (k0_pay61 v100 k0_pay36 (k0_pay57 M) 2#32 (k0_pay58 v100) (k0_pay59 v100)) (ix3 c 0 l) = M (ix2 (rw_ 0 c l) ⟨128 + (col1 l).val, by omega⟩) := by
  have e : (k0_pay61 v100 k0_pay36 (k0_pay57 M) 2#32 (k0_pay58 v100) (k0_pay59 v100)) = rowE (k0_pay57 M) (k0_pay60 v100 2#32 (k0_pay58 v100) (k0_pay59 v100)) := rfl
  rw [e, rowE_at _ _ c l _ (idx3_at c l), k0_pay57_at]

theorem row7_at (M : FVec Ideal S64x512 .f32) (c : Fin 16) (l : Fin 128) :
    (k0_pay66 k0_pay36 (k0_pay60 v100 2#32 (k0_pay58 v100) (k0_pay59 v100)) (k0_pay62 (k0_pay57 M)) (k0_pay63 v100 (k0_pay57 M) 2#32 (k0_pay58 v100) (k0_pay59 v100)) (k0_pay64 v100 2#32 (k0_pay58 v100) (k0_pay59 v100)) k0_pay65) (ix3 c 0 l) = M (ix2 (rw_ 1 c l) ⟨128 + (col1 l).val, by omega⟩) := by
  have e : (k0_pay66 k0_pay36 (k0_pay60 v100 2#32 (k0_pay58 v100) (k0_pay59 v100)) (k0_pay62 (k0_pay57 M)) (k0_pay63 v100 (k0_pay57 M) 2#32 (k0_pay58 v100) (k0_pay59 v100)) (k0_pay64 v100 2#32 (k0_pay58 v100) (k0_pay59 v100)) k0_pay65) = rowO (k0_pay57 M) (k0_pay60 v100 2#32 (k0_pay58 v100) (k0_pay59 v100)) := rfl
  rw [e, rowO_at _ _ c l _ (idx3_at c l), k0_pay57_at]

theorem row8_at (M : FVec Ideal S64x512 .f32) (c : Fin 16) (l : Fin 128) :
    (k0_pay71 k0_pay36 (k0_pay68 v100) (k0_pay69 M) (k0_pay70 M v100)) (ix3 c 0 l) = M (ix2 (rw_ 0 c l) ⟨256 + (col0 l).val, by omega⟩) := by
  have e : (k0_pay71 k0_pay36 (k0_pay68 v100) (k0_pay69 M) (k0_pay70 M v100)) = rowE (k0_pay67 M) (k0_pay68 v100) := rfl
  rw [e, rowE_at _ _ c l _ (idx4_at c l), k0_pay67_at]

theorem row9_at (M : FVec Ideal S64x512 .f32) (c : Fin 16) (l : Fin 128) :
    (k0_pay72 k0_pay36 (k0_pay67 M) (k0_pay68 v100)) (ix3 c 0 l) = M (ix2 (rw_ 1 c l) ⟨256 + (col0 l).val, by omega⟩) := by
  have e : (k0_pay72 k0_pay36 (k0_pay67 M) (k0_pay68 v100)) = rowO (k0_pay67 M) (k0_pay68 v100) := rfl
  rw [e, rowO_at _ _ c l _ (idx4_at c l), k0_pay67_at]

theorem row10_at (M : FVec Ideal S64x512 .f32) (c : Fin 16) (l : Fin 128) :
    (k0_pay78 v100 k0_pay36 (k0_pay73 M) 2#32 (k0_pay74 v100) (k0_pay75 v100) (k0_pay76 v100)) (ix3 c 0 l) = M (ix2 (rw_ 0 c l) ⟨256 + (col1 l).val, by omega⟩) := by
  have e : (k0_pay78 v100 k0_pay36 (k0_pay73 M) 2#32 (k0_pay74 v100) (k0_pay75 v100) (k0_pay76 v100)) = rowE (k0_pay73 M) (k0_pay77 v100 2#32 (k0_pay74 v100) (k0_pay75 v100) (k0_pay76 v100)) := rfl
  rw [e, rowE_at _ _ c l _ (idx5_at c l), k0_pay73_at]

theorem row11_at (M : FVec Ideal S64x512 .f32) (c : Fin 16) (l : Fin 128) :
    (k0_pay83 k0_pay36 (k0_pay77 v100 2#32 (k0_pay74 v100) (k0_pay75 v100) (k0_pay76 v100)) (k0_pay79 (k0_pay73 M)) (k0_pay80 (k0_pay73 M)) (k0_pay81 v100 2#32 (k0_pay74 v100) (k0_pay75 v100) (k0_pay76 v100)) k0_pay82) (ix3 c 0 l) = M (ix2 (rw_ 1 c l) ⟨256 + (col1 l).val, by omega⟩) := by
  have e : (k0_pay83 k0_pay36 (k0_pay77 v100 2#32 (k0_pay74 v100) (k0_pay75 v100) (k0_pay76 v100)) (k0_pay79 (k0_pay73 M)) (k0_pay80 (k0_pay73 M)) (k0_pay81 v100 2#32 (k0_pay74 v100) (k0_pay75 v100) (k0_pay76 v100)) k0_pay82) = rowO (k0_pay73 M) (k0_pay77 v100 2#32 (k0_pay74 v100) (k0_pay75 v100) (k0_pay76 v100)) := rfl
  rw [e, rowO_at _ _ c l _ (idx5_at c l), k0_pay73_at]

theorem row12_at (M : FVec Ideal S64x512 .f32) (c : Fin 16) (l : Fin 128) :
    (k0_pay88 k0_pay36 (k0_pay85 v100) (k0_pay86 M) (k0_pay87 M)) (ix3 c 0 l) = M (ix2 (rw_ 0 c l) ⟨384 + (col0 l).val, by omega⟩) := by
  have e : (k0_pay88 k0_pay36 (k0_pay85 v100) (k0_pay86 M) (k0_pay87 M)) = rowE (k0_pay84 M) (k0_pay85 v100) := rfl
  rw [e, rowE_at _ _ c l _ (idx6_at c l), k0_pay84_at]

theorem row13_at (M : FVec Ideal S64x512 .f32) (c : Fin 16) (l : Fin 128) :
    (k0_pay89 k0_pay36 (k0_pay84 M) (k0_pay85 v100)) (ix3 c 0 l) = M (ix2 (rw_ 1 c l) ⟨384 + (col0 l).val, by omega⟩) := by
  have e : (k0_pay89 k0_pay36 (k0_pay84 M) (k0_pay85 v100)) = rowO (k0_pay84 M) (k0_pay85 v100) := rfl
  rw [e, rowO_at _ _ c l _ (idx6_at c l), k0_pay84_at]

theorem row14_at (M : FVec Ideal S64x512 .f32) (c : Fin 16) (l : Fin 128) :
    (k0_pay93 (k0_pay92 v100 k0_pay36 (k0_pay90 M) 2#32)) (ix3 c 0 l) = M (ix2 (rw_ 0 c l) ⟨384 + (col1 l).val, by omega⟩) := by
  have e : (k0_pay93 (k0_pay92 v100 k0_pay36 (k0_pay90 M) 2#32)) = rowE (k0_pay90 M) (k0_pay91 v100 2#32) := rfl
  rw [e, rowE_at _ _ c l _ (idx7_at c l), k0_pay90_at]

theorem row15_at (M : FVec Ideal S64x512 .f32) (c : Fin 16) (l : Fin 128) :
    (k0_pay94 k0_pay36 (k0_pay90 M) (k0_pay91 v100 2#32)) (ix3 c 0 l) = M (ix2 (rw_ 1 c l) ⟨384 + (col1 l).val, by omega⟩) := by
  have e : (k0_pay94 k0_pay36 (k0_pay90 M) (k0_pay91 v100 2#32)) = rowO (k0_pay90 M) (k0_pay91 v100 2#32) := rfl
  rw [e, rowO_at _ _ c l _ (idx7_at c l), k0_pay90_at]

/-- The whole stage, as the list of its rows, last first. -/
def stage (M : FVec Ideal S64x512 .f32) : List (View.Piece (Elt Ideal) S16x16x128 .f32) :=
  [⟨Rect.unit ![0, 15, 0] S16x1x128.size inb_S16x16x128_S16x1x128_0_15_0, k0_pay94 k0_pay36 (k0_pay90 M) (k0_pay91 v100 2#32)⟩,
   ⟨Rect.unit ![0, 14, 0] S16x1x128.size inb_S16x16x128_S16x1x128_0_14_0, k0_pay93 (k0_pay92 v100 k0_pay36 (k0_pay90 M) 2#32)⟩,
   ⟨Rect.unit ![0, 13, 0] S16x1x128.size inb_S16x16x128_S16x1x128_0_13_0, k0_pay89 k0_pay36 (k0_pay84 M) (k0_pay85 v100)⟩,
   ⟨Rect.unit ![0, 12, 0] S16x1x128.size inb_S16x16x128_S16x1x128_0_12_0, k0_pay88 k0_pay36 (k0_pay85 v100) (k0_pay86 M) (k0_pay87 M)⟩,
   ⟨Rect.unit ![0, 11, 0] S16x1x128.size inb_S16x16x128_S16x1x128_0_11_0, k0_pay83 k0_pay36 (k0_pay77 v100 2#32 (k0_pay74 v100) (k0_pay75 v100) (k0_pay76 v100)) (k0_pay79 (k0_pay73 M)) (k0_pay80 (k0_pay73 M)) (k0_pay81 v100 2#32 (k0_pay74 v100) (k0_pay75 v100) (k0_pay76 v100)) k0_pay82⟩,
   ⟨Rect.unit ![0, 10, 0] S16x1x128.size inb_S16x16x128_S16x1x128_0_10_0, k0_pay78 v100 k0_pay36 (k0_pay73 M) 2#32 (k0_pay74 v100) (k0_pay75 v100) (k0_pay76 v100)⟩,
   ⟨Rect.unit ![0, 9, 0] S16x1x128.size inb_S16x16x128_S16x1x128_0_9_0, k0_pay72 k0_pay36 (k0_pay67 M) (k0_pay68 v100)⟩,
   ⟨Rect.unit ![0, 8, 0] S16x1x128.size inb_S16x16x128_S16x1x128_0_8_0, k0_pay71 k0_pay36 (k0_pay68 v100) (k0_pay69 M) (k0_pay70 M v100)⟩,
   ⟨Rect.unit ![0, 7, 0] S16x1x128.size inb_S16x16x128_S16x1x128_0_7_0, k0_pay66 k0_pay36 (k0_pay60 v100 2#32 (k0_pay58 v100) (k0_pay59 v100)) (k0_pay62 (k0_pay57 M)) (k0_pay63 v100 (k0_pay57 M) 2#32 (k0_pay58 v100) (k0_pay59 v100)) (k0_pay64 v100 2#32 (k0_pay58 v100) (k0_pay59 v100)) k0_pay65⟩,
   ⟨Rect.unit ![0, 6, 0] S16x1x128.size inb_S16x16x128_S16x1x128_0_6_0, k0_pay61 v100 k0_pay36 (k0_pay57 M) 2#32 (k0_pay58 v100) (k0_pay59 v100)⟩,
   ⟨Rect.unit ![0, 5, 0] S16x1x128.size inb_S16x16x128_S16x1x128_0_5_0, k0_pay56 k0_pay36 (k0_pay51 M) (k0_pay52 v100)⟩,
   ⟨Rect.unit ![0, 4, 0] S16x1x128.size inb_S16x16x128_S16x1x128_0_4_0, k0_pay55 k0_pay36 (k0_pay53 M v100) (k0_pay54 M v100)⟩,
   ⟨Rect.unit ![0, 3, 0] S16x1x128.size inb_S16x16x128_S16x1x128_0_3_0, k0_pay50 (k0_pay49 k0_pay36 (k0_pay45 M) (k0_pay46 v100))⟩,
   ⟨Rect.unit ![0, 2, 0] S16x1x128.size inb_S16x16x128_S16x1x128_0_2_0, k0_pay48 k0_pay36 (k0_pay45 M) (k0_pay46 v100)⟩,
   ⟨Rect.unit ![0, 1, 0] S16x1x128.size inb_S16x16x128_S16x1x128_0_1_0, k0_pay44 k0_pay36 (k0_pay40 v100 2#32 k0_pay38 k0_pay39) (k0_pay42 (k0_pay45 M)) (k0_pay43 (k0_pay45 M))⟩,
   ⟨Rect.unit ![0, 0, 0] S16x1x128.size inb_S16x16x128_S16x1x128_0_0_0, k0_pay41 v100 k0_pay36 (k0_pay45 M) 2#32 k0_pay38 k0_pay39⟩]

/-- The image block: entry `(c, r, l)` is the guided block at feature `(r % 2 * 2 + l % 2) * 16 + c` and token
`r / 2 * 64 + l / 2`. -/
def img (M : FVec Ideal S64x512 .f32) (c r : Fin 16) (l : Fin 128) : EReal :=
  M (ix2 (⟨(r.val % 2 * 2 + l.val % 2) * 16 + c.val, by omega⟩ : Fin 64) (⟨r.val / 2 * 64 + l.val / 2, by omega⟩ : Fin 512))

def imgF (M : FVec Ideal S64x512 .f32) (j : S16x16x128.Idx) : EReal := img M (j 0) (j 1) (j 2)

theorem piece_of (M : FVec Ideal S64x512 .f32) (r : Fin 16) (w : S16x1x128.Idx → EReal)
    (inb : ∀ a, (![0, r.val, 0] : Fin 3 → ℕ) a + S16x1x128.size a ≤ S16x16x128.size a)
    (hw : ∀ (c : Fin 16) (l : Fin 128), w (ix3 c 0 l) = img M c r l) (x : S16x1x128.Idx) :
    w x = imgF M ((Rect.unit (s := S16x16x128) ![0, r.val, 0] S16x1x128.size inb).emb x) := by
  obtain ⟨c, z, l, rfl⟩ : ∃ (c : Fin 16) (z : Fin 1) (l : Fin 128), x = ix3 c z l := ⟨x 0, x 1, x 2, eq_ix3 x⟩
  obtain rfl : z = 0 := Subsingleton.elim _ _
  rw [hw]
  have h0 : ((Rect.unit (s := S16x16x128) ![0, r.val, 0] S16x1x128.size inb).emb (ix3 c 0 l)) 0 = c :=
    Fin.ext (by show 0 + 1 * c.val = c.val; omega)
  have h1 : ((Rect.unit (s := S16x16x128) ![0, r.val, 0] S16x1x128.size inb).emb (ix3 c 0 l)) 1 = r :=
    Fin.ext (by show r.val + 1 * 0 = r.val; omega)
  have h2 : ((Rect.unit (s := S16x16x128) ![0, r.val, 0] S16x1x128.size inb).emb (ix3 c 0 l)) 2 = l :=
    Fin.ext (by show 0 + 1 * l.val = l.val; omega)
  unfold imgF
  rw [h0, h1, h2]

theorem img_at (M : FVec Ideal S64x512 .f32) (r : Fin 16) (p : Fin 2) (c : Fin 16) (l : Fin 128) (n : ℕ) (hn : n < 512)
    (hp : p.val = r.val % 2) (hh : n = r.val / 2 * 64 + l.val / 2) : M (ix2 (rw_ p c l) ⟨n, hn⟩) = img M c r l := by
  subst hh
  exact congrArg M (congrArg (ix2 · _) (Fin.ext (by show (p.val * 2 + l.val % 2) * 16 + c.val = (r.val % 2 * 2 + l.val % 2) * 16 + c.val; rw [hp])))

theorem stage_pieces (M : FVec Ideal S64x512 .f32) : ∀ p ∈ stage M, ∀ x : p.1.shape.Idx, p.2 x = imgF M (p.1.emb x) := by
  unfold stage
  simp only [List.forall_mem_cons, List.not_mem_nil, false_imp_iff, implies_true, and_true]
  refine ⟨piece_of M 15 _ _ (fun c l => (row15_at M c l).trans (img_at M 15 1 c l _ _ rfl (by show 384 + (l.val / 2 + 64) = 15 / 2 * 64 + l.val / 2; omega))), piece_of M 14 _ _ (fun c l => (row14_at M c l).trans (img_at M 14 0 c l _ _ rfl (by show 384 + (l.val / 2 + 64) = 14 / 2 * 64 + l.val / 2; omega))), piece_of M 13 _ _ (fun c l => (row13_at M c l).trans (img_at M 13 1 c l _ _ rfl (by show 384 + (l.val / 2 + 0) = 13 / 2 * 64 + l.val / 2; omega))), piece_of M 12 _ _ (fun c l => (row12_at M c l).trans (img_at M 12 0 c l _ _ rfl (by show 384 + (l.val / 2 + 0) = 12 / 2 * 64 + l.val / 2; omega))), piece_of M 11 _ _ (fun c l => (row11_at M c l).trans (img_at M 11 1 c l _ _ rfl (by show 256 + (l.val / 2 + 64) = 11 / 2 * 64 + l.val / 2; omega))), piece_of M 10 _ _ (fun c l => (row10_at M c l).trans (img_at M 10 0 c l _ _ rfl (by show 256 + (l.val / 2 + 64) = 10 / 2 * 64 + l.val / 2; omega))), piece_of M 9 _ _ (fun c l => (row9_at M c l).trans (img_at M 9 1 c l _ _ rfl (by show 256 + (l.val / 2 + 0) = 9 / 2 * 64 + l.val / 2; omega))), piece_of M 8 _ _ (fun c l => (row8_at M c l).trans (img_at M 8 0 c l _ _ rfl (by show 256 + (l.val / 2 + 0) = 8 / 2 * 64 + l.val / 2; omega))), piece_of M 7 _ _ (fun c l => (row7_at M c l).trans (img_at M 7 1 c l _ _ rfl (by show 128 + (l.val / 2 + 64) = 7 / 2 * 64 + l.val / 2; omega))), piece_of M 6 _ _ (fun c l => (row6_at M c l).trans (img_at M 6 0 c l _ _ rfl (by show 128 + (l.val / 2 + 64) = 6 / 2 * 64 + l.val / 2; omega))), piece_of M 5 _ _ (fun c l => (row5_at M c l).trans (img_at M 5 1 c l _ _ rfl (by show 128 + (l.val / 2 + 0) = 5 / 2 * 64 + l.val / 2; omega))), piece_of M 4 _ _ (fun c l => (row4_at M c l).trans (img_at M 4 0 c l _ _ rfl (by show 128 + (l.val / 2 + 0) = 4 / 2 * 64 + l.val / 2; omega))), piece_of M 3 _ _ (fun c l => (row3_at M c l).trans (img_at M 3 1 c l _ _ rfl (by show 0 + (l.val / 2 + 64) = 3 / 2 * 64 + l.val / 2; omega))), piece_of M 2 _ _ (fun c l => (row2_at M c l).trans (img_at M 2 0 c l _ _ rfl (by show 0 + (l.val / 2 + 64) = 2 / 2 * 64 + l.val / 2; omega))), piece_of M 1 _ _ (fun c l => (row1_at M c l).trans (img_at M 1 1 c l _ _ rfl (by show 0 + (l.val / 2 + 0) = 1 / 2 * 64 + l.val / 2; omega))), piece_of M 0 _ _ (fun c l => (row0_at M c l).trans (img_at M 0 0 c l _ _ rfl (by show 0 + (l.val / 2 + 0) = 0 / 2 * 64 + l.val / 2; omega)))⟩

theorem stage_cover (M : FVec Ideal S64x512 .f32) : ∀ y, ∃ p ∈ stage M, y ∈ p.1.set :=
  View.cover_of_tiledL _ S16x1x128.size (by sl_kernel_rfl)

/-- THE IMAGE BLOCK: what the sixteen rows leave. -/
theorem stage_at (M : FVec Ideal S64x512 .f32) : View.canon (stage M) = imgF M :=
  funext fun y => View.canon_apply_of_pieces (imgF M) (stage M) (stage_pieces M) y (stage_cover M y)

end Cert.Stage

end
-- ==== Proof.Core.lean ====
/- A grid point's values, over the pieces its two loops leave. -/
module

public import proofs.«01_k».proof.Proof.Loop
public import proofs.«01_k».proof.Proof.Guide
public import proofs.«01_k».proof.Proof.Stage
public import Idealize.ShloMosaic.Lib.Pipeline.FrameBody
public import Idealize.ShloMosaic.Lib.Pipeline.Value

@[expose] public section

set_option maxRecDepth 16384

noncomputable section

namespace Cert.Core
open Idealize.ShloMosaic Idealize.ShloMosaic.TcCoe Cert.KernelIdeal Cert.KernelIdeal.Gen Cert.Row Cert.Loop
open scoped BigOperators

/-- Every piece holds the function's values at its place. -/
def Conf {s : Shape} {e : EltTy} (G : s.Idx → Elt Ideal e) (L : List (View.Piece (Elt Ideal) s e)) : Prop :=
  ∀ p ∈ L, ∀ x : p.1.shape.Idx, p.2 x = G (p.1.emb x)

/-- What a covered place reads. -/
theorem read_conf {κ : Kind} {sp : Space} {s : Shape} {e : EltTy} (v : View sig κ sp s e) (f : v.ty.Contents (Elt Ideal))
    (G : s.Idx → Elt Ideal e) (L : List (View.Piece (Elt Ideal) s e)) (hL : Conf G L) (y : s.Idx) (h : ∃ p ∈ L, y ∈ p.1.set) :
    v.read (Elt Ideal) (v.writes (Elt Ideal) f L) y = G y :=
  (View.read_writes_apply_eq_canon v f y L h).trans (View.canon_apply_of_pieces G L hL y h)

/-- The batch row of a grid point, and its two input rows. -/
def bi (i : grid0.Coords) : Fin 6 := ⟨(i 0).val, (i 0).isLt⟩
def si (i : grid0.Coords) : Fin 6 := ⟨(i 1).val, (i 1).isLt⟩
def hf (h : Fin 2) (b : Fin 6) : Fin 12 := ⟨h.val * 6 + b.val, by omega⟩

theorem off1_0 : ∀ i : grid0.Coords, k0_off1 i 0#32 = ![(i 0).val, 0] := by decide +kernel
theorem off1_6 : ∀ i : grid0.Coords, k0_off1 i 6#32 = ![6 + (i 0).val, 0] := by decide +kernel
theorem off4_0 : ∀ i : grid0.Coords, k0_off4 i 0#32 = ![(i 0).val, 512 * (i 1).val] := by decide +kernel
theorem off4_6 : ∀ i : grid0.Coords, k0_off4 i 6#32 = ![6 + (i 0).val, 512 * (i 1).val] := by decide +kernel
theorem off7_eq : ∀ i : grid0.Coords, k0_off7 i = ![(i 0).val] := by decide +kernel

/-- A modulation row as loaded. -/
theorem mod_at (a : Memref sig .tc .vmem S12x1536 .f32) (ha : a.IsWhole) (x : Vec Ideal S12x1536 .f32) (h : Fin 2) (b : Fin 6)
    (off : Fin 2 → ℕ) (ho : off = ![h.val * 6 + b.val, 0]) (inb : ∀ q, off q + S1x1536.size q ≤ S12x1536.size q) :
    Pay.rv (View.readAt (Elt Ideal) a.view (Rect.unit (s := S12x1536) off S1x1536.size inb).toLoadRect (ha.unread x))
      = fun k => x (ix2 (hf h b) k) := by
  subst ho
  funext k
  unfold Pay.rv
  rw [View.readAt_eq_ld, ha.read_unread]
  refine congrArg x (funext fun q => Fin.ext ?_)
  match q with
  | ⟨0, _⟩ => show h.val * 6 + b.val + 1 * 0 = h.val * 6 + b.val; omega
  | ⟨1, _⟩ => show 0 + 1 * k.val = k.val; omega

/-- A scalar as loaded. -/
theorem scalar_at (a : Memref sig .tc .smem S6 .f32) (ha : a.IsWhole) (x : Vec Ideal S6 .f32) (b : Fin 6)
    (off : Fin 1 → ℕ) (ho : off = ![b.val]) (inb : ∀ q, off q + S1.size q ≤ S6.size q) (hn : 0 < S1.numel) :
    View.readAt (Elt Ideal) a.view (Rect.unit (s := S6) off S1.size inb).toLoadRect (ha.unread x) (Shape.Idx.first hn) = x (ix1 b) := by
  subst ho
  rw [View.readAt_eq_ld, ha.read_unread]
  refine congrArg x (funext fun q => Fin.ext ?_)
  match q with
  | ⟨0, _⟩ => show b.val + 1 * 0 = b.val; omega

/-- A whole load. -/
theorem whole_at {κ : Kind} {sp : Space} {s : Shape} {e : EltTy} (a : Memref sig κ sp s e) (ha : a.IsWhole) (x : s.Idx → Elt Ideal e)
    (off : Fin s.rank → ℕ) (ho : off = fun _ => 0) (inb : ∀ q, off q + s.size q ≤ s.size q) :
    View.readAt (Elt Ideal) a.view (Rect.unit (s := s) off s.size inb).toLoadRect (ha.unread x) = x := by
  subst ho
  rw [View.readAt_eq_ld, ha.read_unread]
  funext j
  refine congrArg x (funext fun q => Fin.ext ?_)
  show 0 + 1 * (j q).val = (j q).val
  omega

section point
variable (X : Vec Ideal S2x1x512x1536 .bf16) (sc sh : Fin 2 → Fin 1536 → EReal)
variable (wt : Vec Ideal S64x1536 .fp8e4m3) (ws bo : Vec Ideal S1x64 .f32) (g : EReal)

/-- The scale of one row of the block. -/
def scl (h : Fin 2) (j : Fin 512) : EReal := kscale (amax (hrow (fun k => X (ix4 h 0 j k)) (sc h) (sh h)))

/-- One half's product. -/
def prd (h : Fin 2) (o : Fin 64) (j : Fin 512) : EReal :=
  yrow kscale kinv (fun k => X (ix4 h 0 j k)) (sc h) (sh h) (fun k => wt (ix2 o k)) (ws (ix2 0 o)) (bo (ix2 0 o))

/-- The guided block. -/
def gui (p : S64x512.Idx) : EReal := mix g (prd X sc sh wt ws bo 0 (p 0) (p 1)) (prd X sc sh wt ws bo 1 (p 0) (p 1))

variable (v14 : View sig .tc .vmem S2x1x512x1536 .fp8e4m3) (v17 : View sig .tc .vmem S512x128 .f32)
variable (f14 : v14.ty.Contents (Elt Ideal)) (f17 : v17.ty.Contents (Elt Ideal))

/-- A block of 128 scale rows as loaded after a loop. -/
theorem rows_at (h : Fin 2) (L : List (View.Piece (Elt Ideal) S512x128 .f32)) (hL : Conf (scaleG X sc sh h) L)
    (hc : ∀ (r : Fin 512) (l : Fin 128), ∃ p ∈ L, (ix2 r l : S512x128.Idx) ∈ p.1.set)
    (n : ℕ) (hn : n + 128 ≤ 512) (inb : ∀ q, (![n, 0] : Fin 2 → ℕ) q + S128x128.size q ≤ S512x128.size q) (q : Fin 128) :
    (View.readAt (Elt Ideal) v17 (Rect.unit (s := S512x128) ![n, 0] S128x128.size inb).toLoadRect (v17.writes (Elt Ideal) f17 L)) (ix2 q 0)
      = scl X sc sh h ⟨n + q.val, by omega⟩ := by
  rw [View.readAt_eq_ld]
  have he : (Rect.unit (s := S512x128) ![n, 0] S128x128.size inb).emb (ix2 q 0) = ix2 (⟨n + q.val, by omega⟩ : Fin 512) 0 := by
    refine funext fun a => Fin.ext ?_
    match a with
    | ⟨0, _⟩ => show n + 1 * q.val = n + q.val; omega
    | ⟨1, _⟩ => rfl
  refine (congrArg (v17.read (Elt Ideal) (v17.writes (Elt Ideal) f17 L)) he).trans ?_
  exact read_conf v17 f17 _ L hL _ (hc _ _)

/-- The strip of 512 scales after a loop. -/
theorem strip (h : Fin 2) (L : List (View.Piece (Elt Ideal) S512x128 .f32)) (hL : Conf (scaleG X sc sh h) L)
    (hc : ∀ (r : Fin 512) (l : Fin 128), ∃ p ∈ L, (ix2 r l : S512x128.Idx) ∈ p.1.set)
    (i0 : ∀ q, (![0, 0] : Fin 2 → ℕ) q + S128x128.size q ≤ S512x128.size q)
    (i1 : ∀ q, (![128, 0] : Fin 2 → ℕ) q + S128x128.size q ≤ S512x128.size q)
    (i2 : ∀ q, (![256, 0] : Fin 2 → ℕ) q + S128x128.size q ≤ S512x128.size q)
    (i3 : ∀ q, (![384, 0] : Fin 2 → ℕ) q + S128x128.size q ≤ S512x128.size q) (j : Fin 512) :
    (k0_pay24 (F := Ideal)
      (View.readAt (Elt Ideal) v17 (Rect.unit (s := S512x128) ![0, 0] S128x128.size i0).toLoadRect (v17.writes (Elt Ideal) f17 L))
      (View.readAt (Elt Ideal) v17 (Rect.unit (s := S512x128) ![128, 0] S128x128.size i1).toLoadRect (v17.writes (Elt Ideal) f17 L))
      (View.readAt (Elt Ideal) v17 (Rect.unit (s := S512x128) ![256, 0] S128x128.size i2).toLoadRect (v17.writes (Elt Ideal) f17 L))
      (View.readAt (Elt Ideal) v17 (Rect.unit (s := S512x128) ![384, 0] S128x128.size i3).toLoadRect (v17.writes (Elt Ideal) f17 L))
      (ix2 0 j) : EReal) = scl X sc sh h j :=
  Guide.strip_at _ _ _ _ (scl X sc sh h)
    (fun q => rows_at X sc sh v17 f17 h L hL hc 0 (by omega) i0 q) (fun q => rows_at X sc sh v17 f17 h L hL hc 128 (by omega) i1 q)
    (fun q => rows_at X sc sh v17 f17 h L hL hc 256 (by omega) i2 q) (fun q => rows_at X sc sh v17 f17 h L hL hc 384 (by omega) i3 q) j

/-- A half's codes as loaded after its loop. -/
theorem codes (h : Fin 2) (L : List (View.Piece (Elt Ideal) S2x1x512x1536 .fp8e4m3)) (hL : Conf (codesG X sc sh) L)
    (hc : ∀ (r : Fin 512) (k : Fin 1536), ∃ p ∈ L, (ix4 h 0 r k : S2x1x512x1536.Idx) ∈ p.1.set)
    (off : Fin 4 → ℕ) (ho : off = ![h.val, 0, 0, 0]) (inb : ∀ q, off q + S1x1x512x1536.size q ≤ S2x1x512x1536.size q) (j : Fin 512) (k : Fin 1536) :
    (View.readAt (Elt Ideal) v14 (Rect.unit (s := S2x1x512x1536) off S1x1x512x1536.size inb).toLoadRect (v14.writes (Elt Ideal) f14 L)) (ix4 0 0 j k)
      = crow kinv (fun k => X (ix4 h 0 j k)) (sc h) (sh h) k := by
  subst ho
  rw [View.readAt_eq_ld]
  have he : (Rect.unit (s := S2x1x512x1536) ![h.val, 0, 0, 0] S1x1x512x1536.size inb).emb (ix4 0 0 j k) = ix4 h 0 j k := by
    refine funext fun a => Fin.ext ?_
    match a with
    | ⟨0, _⟩ => show h.val + 1 * 0 = h.val; omega
    | ⟨1, _⟩ => rfl
    | ⟨2, _⟩ => show 0 + 1 * j.val = j.val; omega
    | ⟨3, _⟩ => show 0 + 1 * k.val = k.val; omega
  refine (congrArg (v14.read (Elt Ideal) (v14.writes (Elt Ideal) f14 L)) he).trans ?_
  exact read_conf v14 f14 _ L hL _ (hc _ _)

/-- THE GUIDED BLOCK from strips and codes. -/
theorem guided (st : FVec Ideal S1x512 .f32) (v57 v60 v63 v66 : FVec Ideal S1x128 .f32) (C0 C1 : Vec Ideal S1x1x512x1536 .fp8e4m3)
    (h0 : ∀ j, (st (ix2 0 j) : EReal) = scl X sc sh 0 j) (h1 : ∀ j, (k0_pay33 (F := Ideal) v57 v60 v63 v66 (ix2 0 j) : EReal) = scl X sc sh 1 j)
    (c0 : ∀ j k, (C0 (ix4 0 0 j k) : EReal) = crow kinv (fun k => X (ix4 0 0 j k)) (sc 0) (sh 0) k)
    (c1 : ∀ j k, (C1 (ix4 0 0 j k) : EReal) = crow kinv (fun k => X (ix4 1 0 j k)) (sc 1) (sh 1) k) :
    k0_pay34 (F := Ideal) (k0_pay25 st wt C0 ws bo) v57 v60 v63 v66 wt C1 ws bo g = gui X sc sh wt ws bo g := by
  funext p
  obtain ⟨o, j, rfl⟩ : ∃ (o : Fin 64) (j : Fin 512), p = ix2 o j := ⟨p 0, p 1, eq_ix2 p⟩
  refine (Guide.mix_at _ _ _ _ _ _ _ _ _ g o j).trans ?_
  have e0 : (k0_pay25 (F := Ideal) st wt C0 ws bo (ix2 o j) : EReal) = prd X sc sh wt ws bo 0 o j := by
    refine (Guide.prod_at _ _ _ _ _ o j).trans ?_
    rw [h0, Finset.sum_congr rfl fun k _ => congrArg (· * (wt (ix2 o k) : EReal)) (c0 j k)]
    rfl
  have e1 : (k0_pay25 (F := Ideal) (k0_pay33 v57 v60 v63 v66) wt C1 ws bo (ix2 o j) : EReal) = prd X sc sh wt ws bo 1 o j := by
    refine (Guide.prod_at _ _ _ _ _ o j).trans ?_
    rw [h1, Finset.sum_congr rfl fun k _ => congrArg (· * (wt (ix2 o k) : EReal)) (c1 j k)]
    rfl
  rw [e0, e1]
  rfl

end point

/-- The image block as read back from the staging buffer. -/
theorem img_read {κ : Kind} {sp : Space} (v : View sig κ sp S16x16x128 .f32) (M : FVec Ideal S64x512 .f32)
    (L : List (View.Piece (Elt Ideal) S16x16x128 .f32)) (hL : L = Stage.stage M)
    (off : Fin 3 → ℕ) (ho : off = fun _ => 0) (inb : ∀ q, off q + S16x16x128.size q ≤ S16x16x128.size q) :
    v.readCov L (Rect.unit (s := S16x16x128) off S16x16x128.size inb).toLoadRect = Stage.imgF M := by
  subst hL ho
  funext j
  refine (View.read_writes_apply_eq_canon v v.junk _ _ (Stage.stage_cover M _)).trans ?_
  rw [Stage.stage_at]
  refine congrArg (Stage.imgF M) (funext fun q => Fin.ext ?_)
  show 0 + 1 * (j q).val = (j q).val
  omega

/-- The rows of the scales' array a grid point writes. -/
def InStrip (i : grid0.Coords) (y : S12x3072.Idx) : Prop := (y 0).val % 6 = (i 0).val ∧ (y 1).val / 512 = (i 1).val

/-- The two strips of scales a grid point writes. -/
theorem strips (i : grid0.Coords) (G : S12x3072.Idx → EReal) (f : Fin 2 → Fin 512 → EReal)
    (hG : ∀ (h : Fin 2) (j : Fin 512) (y : S12x3072.Idx), (y 0).val = h.val * 6 + (i 0).val → (y 1).val = 512 * (i 1).val + j.val → G y = f h j)
    (p1 p0 : S1x512.Idx → EReal) (h1 : ∀ j, p1 (ix2 0 j) = f 1 j) (h0 : ∀ j, p0 (ix2 0 j) = f 0 j)
    (b6 : ∀ q, k0_off4 i 6#32 q + S1x512.size q ≤ S12x3072.size q) (b0 : ∀ q, k0_off4 i 0#32 q + S1x512.size q ≤ S12x3072.size q)
    (L : List (View.Piece (Elt Ideal) S12x3072 .f32))
    (hL : L = [⟨Rect.unit (s := S12x3072) (k0_off4 i 6#32) S1x512.size b6, p1⟩, ⟨Rect.unit (s := S12x3072) (k0_off4 i 0#32) S1x512.size b0, p0⟩]) :
    Conf (e := .f32) G L ∧ ∀ y, (∃ p ∈ L, y ∈ p.1.set) ↔ InStrip i y := by
  subst hL
  have o6 := off4_6 i
  have o0 := off4_0 i
  refine ⟨?_, fun y => ?_⟩
  · unfold Conf
    simp only [List.forall_mem_cons, List.not_mem_nil, false_imp_iff, implies_true, and_true]
    refine ⟨fun (x : S1x512.Idx) => ?_, fun (x : S1x512.Idx) => ?_⟩ <;>
      obtain ⟨z, j, rfl⟩ : ∃ (z : Fin 1) (j : Fin 512), x = ix2 z j := ⟨x 0, x 1, eq_ix2 x⟩ <;>
      obtain rfl : z = 0 := Subsingleton.elim _ _
    · refine (h1 j).trans (hG 1 j _ ?_ ?_).symm
      · show k0_off4 i 6#32 0 + 1 * 0 = 1 * 6 + (i 0).val
        rw [o6]; show 6 + (i 0).val + 1 * 0 = _; omega
      · show k0_off4 i 6#32 1 + 1 * j.val = _
        rw [o6]; show 512 * (i 1).val + 1 * j.val = _; omega
    · refine (h0 j).trans (hG 0 j _ ?_ ?_).symm
      · show k0_off4 i 0#32 0 + 1 * 0 = 0 * 6 + (i 0).val
        rw [o0]; show (i 0).val + 1 * 0 = _; omega
      · show k0_off4 i 0#32 1 + 1 * j.val = _
        rw [o0]; show 512 * (i 1).val + 1 * j.val = _; omega
  · have hi0 : (i 0).val < 6 := (i 0).isLt
    have hi1 : (i 1).val < 6 := (i 1).isLt
    have hy0 : (y 0).val < 12 := (y 0).isLt
    have hy1 : (y 1).val < 3072 := (y 1).isLt
    simp only [List.mem_cons, List.not_mem_nil, or_false, exists_eq_or_imp, exists_eq_left, Rect.mem_set_unit]
    rw [o6, o0]
    constructor
    · rintro (h | h)
      · have a := h 0; have b := h 1
        change 6 + (i 0).val ≤ (y 0).val ∧ (y 0).val < 6 + (i 0).val + 1 at a
        change 512 * (i 1).val ≤ (y 1).val ∧ (y 1).val < 512 * (i 1).val + 512 at b
        exact ⟨by omega, by omega⟩
      · have a := h 0; have b := h 1
        change (i 0).val ≤ (y 0).val ∧ (y 0).val < (i 0).val + 1 at a
        change 512 * (i 1).val ≤ (y 1).val ∧ (y 1).val < 512 * (i 1).val + 512 at b
        exact ⟨by omega, by omega⟩
    · rintro ⟨a, b⟩
      by_cases hlt : (y 0).val < 6
      · right; intro q
        match q with
        | ⟨0, _⟩ => show (i 0).val ≤ (y 0).val ∧ (y 0).val < (i 0).val + 1; omega
        | ⟨1, _⟩ => show 512 * (i 1).val ≤ (y 1).val ∧ (y 1).val < 512 * (i 1).val + 512; omega
      · left; intro q
        match q with
        | ⟨0, _⟩ => show 6 + (i 0).val ≤ (y 0).val ∧ (y 0).val < 6 + (i 0).val + 1; omega
        | ⟨1, _⟩ => show 512 * (i 1).val ≤ (y 1).val ∧ (y 1).val < 512 * (i 1).val + 512; omega

/-- A single piece over everything. -/
theorem whole_piece {s : Shape} {e : EltTy} (G : s.Idx → Elt Ideal e) (off : Fin s.rank → ℕ) (ho : off = fun _ => 0)
    (size : Fin s.rank → ℕ) (hs : size = s.size) (inb : ∀ q, off q + size q ≤ s.size q) (w : (Rect.unit (s := s) off size inb).shape.Idx → Elt Ideal e)
    (hw : ∀ x : (Rect.unit (s := s) off size inb).shape.Idx, w x = G fun q => ⟨(x q).val, hs ▸ (x q).isLt⟩) (L : List (View.Piece (Elt Ideal) s e))
    (hL : L = [⟨Rect.unit (s := s) off size inb, w⟩]) : Conf G L ∧ ∀ y, ∃ p ∈ L, y ∈ p.1.set := by
  subst hL ho hs
  refine ⟨?_, fun y => ⟨_, List.mem_singleton.mpr rfl, ?_⟩⟩
  · unfold Conf
    simp only [List.forall_mem_cons, List.not_mem_nil, false_imp_iff, implies_true, and_true]
    intro x
    refine (hw x).trans (congrArg G (funext fun q => Fin.ext ?_))
    show (x q).val = 0 + 1 * (x q).val
    omega
  · show y ∈ (Rect.unit (fun _ => 0) s.size inb).set
    rw [Rect.mem_set_unit]
    refine fun q => ⟨Nat.zero_le _, ?_⟩
    show (y q).val < 0 + s.size q
    have := (y q).isLt
    omega

/-- What is read back whole after pieces that conform and cover. -/
theorem cov_read {κ : Kind} {sp : Space} {s : Shape} {e : EltTy} (v : View sig κ sp s e) (G : s.Idx → Elt Ideal e)
    (L : List (View.Piece (Elt Ideal) s e)) (hL : Conf G L) (hc : ∀ y, ∃ p ∈ L, y ∈ p.1.set)
    (off : Fin s.rank → ℕ) (ho : off = fun _ => 0) (inb : ∀ q, off q + s.size q ≤ s.size q) :
    v.readCov L (Rect.unit (s := s) off s.size inb).toLoadRect = G := by
  subst ho
  funext j
  refine (read_conf v v.junk G L hL _ (hc _)).trans ?_
  refine congrArg G (funext fun q => Fin.ext ?_)
  show 0 + 1 * (j q).val = (j q).val
  omega

theorem z2 : (![0, 0] : Fin 2 → ℕ) = fun _ => 0 := by decide
theorem z3 : (![0, 0, 0] : Fin 3 → ℕ) = fun _ => 0 := by decide
theorem z4 : (![0, 0, 0, 0] : Fin 4 → ℕ) = fun _ => 0 := by decide

section values
variable (i : grid0.Coords)
variable (x0 x1 x2 : Vec Ideal S6 .f32) (x3 : Vec Ideal S2x1x512x1536 .bf16) (x4 x5 : Vec Ideal S12x1536 .f32)
variable (wt : Vec Ideal S64x1536 .fp8e4m3) (x6 : Vec Ideal S1536x64 .fp8e4m3) (x7 x8 : Vec Ideal S1x64 .f32) (x9 : Vec Ideal S1x16x16x128 .f32)

/-- The modulation rows of a grid point, one per half. -/
def mrow (x : Vec Ideal S12x1536 .f32) (h : Fin 2) (k : Fin 1536) : EReal := x (ix2 (hf h (bi i)) k)
/-- The guided block of a grid point. -/
def blk : S64x512.Idx → EReal := gui x3 (mrow i x5) (mrow i x4) wt x7 x8 (x0 (ix1 (bi i)))
/-- The blocks a grid point leaves: the latent, the velocity, the codes, the scales, and the transposed weights. -/
def velG (j : S1x16x16x128.Idx) : EReal := Stage.imgF (blk i x0 x3 x4 x5 wt x7 x8) (ix3 (j 1) (j 2) (j 3))
def latG (j : S1x16x16x128.Idx) : EReal := x9 j + (x2 (ix1 (bi i)) - x1 (ix1 (bi i))) * velG i x0 x3 x4 x5 wt x7 x8 j
def cdsG (j : S2x1x512x1536.Idx) : EReal := codesG x3 (mrow i x5) (mrow i x4) j
def xsG (y : S12x3072.Idx) : EReal :=
  scl x3 (mrow i x5) (mrow i x4) ⟨(y 0).val / 6, by have : (y 0).val < 12 := (y 0).isLt; omega⟩ ⟨(y 1).val % 512, by omega⟩
def wtG (j : S64x1536.Idx) : EReal := x6 (ix2 (j 1) (j 0))

theorem xsG_at (h : Fin 2) (j : Fin 512) (y : S12x3072.Idx) (e0 : (y 0).val = h.val * 6 + (i 0).val) (e1 : (y 1).val = 512 * (i 1).val + j.val) :
    xsG i x3 x4 x5 y = scl x3 (mrow i x5) (mrow i x4) h j := by
  have hi0 : (i 0).val < 6 := (i 0).isLt
  unfold xsG
  have a : (⟨(y 0).val / 6, by have : (y 0).val < 12 := (y 0).isLt; omega⟩ : Fin 2) = h := Fin.ext (by show (y 0).val / 6 = h.val; omega)
  have b : (⟨(y 1).val % 512, by omega⟩ : Fin 512) = j := Fin.ext (by show (y 1).val % 512 = j.val; omega)
  rw [a, b]

theorem pay20_eq : k0_pay20 (F := Ideal) x6 = wtG x6 := by
  funext j
  obtain ⟨o, k, rfl⟩ : ∃ (o : Fin 64) (k : Fin 1536), j = ix2 o k := ⟨j 0, j 1, eq_ix2 j⟩
  exact Guide.wt_at x6 o k

end values

/-- The latent's block from the image block. -/
theorem lat_piece (d : EReal) (V : Vec Ideal S16x16x128 .f32) (x : Vec Ideal S1x16x16x128 .f32) (j : S1x16x16x128.Idx) :
    (k0_pay95 (F := Ideal) d V x j : EReal) = x j + d * V (ix3 (j 1) (j 2) (j 3)) := by
  obtain ⟨z, c, r, l, rfl⟩ : ∃ (z : Fin 1) (c r : Fin 16) (l : Fin 128), j = ix4 z c r l := ⟨j 0, j 1, j 2, j 3, eq_ix4 j⟩
  obtain rfl : z = 0 := Subsingleton.elim _ _
  exact Guide.lat_at d V x c r l

theorem vel_piece (V : Vec Ideal S16x16x128 .f32) (j : S1x16x16x128.Idx) :
    (k0_pay1 (F := Ideal) (k0_pay96 V) j : EReal) = V (ix3 (j 1) (j 2) (j 3)) := by
  obtain ⟨z, c, r, l, rfl⟩ : ∃ (z : Fin 1) (c r : Fin 16) (l : Fin 128), j = ix4 z c r l := ⟨j 0, j 1, j 2, j 3, eq_ix4 j⟩
  obtain rfl : z = 0 := Subsingleton.elim _ _
  exact Guide.vel_at V c r l

end Cert.Core

end
-- ==== Proof.RunKit.lean ====
module

public import proofs.«01_k».proof.Proof.Gen.KernelIdeal.Frame
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg0.N, cond0_0 (grid0.coords t) ↔ t.val % 36 = 0 :=
  (fun t => by
    have ht : t.val < 36 := Nat.lt_of_lt_of_eq t.isLt N_0
    have e0 : (grid0.coords t 0).val = t.val / 6 % 6 := Pipeline.Grid.coords_val t 0 (by decide) rfl
    have e1 : (grid0.coords t 1).val = t.val / 1 % 6 := Pipeline.Grid.coords_val t 1 (by decide) rfl
    simp only [cond0_0, e0, e1]
    word_cmp
   : ∀ t : Fin grid0.N, cond0_0 (grid0.coords t) ↔ t.val % 36 = 0)

/-! ## The kernel body on any staging memrefs: a subtype the run finds -/

/-- Each window's current staging memref at point `t`, spelled as the pipeline passes it (`bodyAt0`), and its wholeness. -/
abbrev ms0_0 (t : Fin cfg0.N) : Memref sig .tc .smem S6 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S6 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .smem S6 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2x1x512x1536 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S12x1536 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S12x1536 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x64 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x64 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x64 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x16x16x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x16x16x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x16x16x128 .bf16 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S2x1x512x1536 .fp8e4m3 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S12x3072 .f32 := win0_13.stage (cfg0.slots t 13)
abbrev hs0_13 (t : Fin cfg0.N) : (ms0_13 t).IsWhole := hstage0_13 ((cfg0.slots t 13).cast nbuf0_13)
/-- The scratch operands: whole scoped buffers of the kernel's own, passed beside the windows. -/
abbrev scM0_0 : Memref sig .tc .vmem S64x1536 .fp8e4m3 := Memref.whole cc0_scratch0
abbrev scM0_1 : Memref sig .tc .vmem S512x128 .f32 := Memref.whole cc0_scratch1
abbrev scM0_2 : Memref sig .tc .vmem S16x16x128 .f32 := Memref.whole cc0_scratch2
/-- The scratch `arg16` the kernel carries between points, as a view: what it holds is stated through it. -/
abbrev VS0_0 : View sig .tc .vmem S64x1536 .fp8e4m3 := scM0_0.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.RunA.lean ====
module

public import proofs.«01_k».proof.Proof.RunKit

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT THE FIRST POINT. On staging memrefs holding the inputs' blocks, and buffers holding anything, the body
    runs to the end, and what it writes into the two image outputs, the codes, the scales and the transposed weights is
    the lists of pieces this run finds. -/
noncomputable def kernelRun0_A (c : Dev nD) (i : grid0.Coords) (arg2 : Memref sig .tc .smem S6 .f32) (harg2 : arg2.IsWhole) (arg3 : Memref sig .tc .smem S6 .f32) (harg3 : arg3.IsWhole) (arg4 : Memref sig .tc .smem S6 .f32) (harg4 : arg4.IsWhole) (arg5 : Memref sig .tc .vmem S2x1x512x1536 .bf16) (harg5 : arg5.IsWhole) (arg6 : Memref sig .tc .vmem S12x1536 .f32) (harg6 : arg6.IsWhole) (arg7 : Memref sig .tc .vmem S12x1536 .f32) (harg7 : arg7.IsWhole) (arg8 : Memref sig .tc .vmem S1536x64 .fp8e4m3) (harg8 : arg8.IsWhole) (arg9 : Memref sig .tc .vmem S1x64 .f32) (harg9 : arg9.IsWhole) (arg10 : Memref sig .tc .vmem S1x64 .f32) (harg10 : arg10.IsWhole) (arg11 : Memref sig .tc .vmem S1x16x16x128 .f32) (harg11 : arg11.IsWhole) (arg12 : Memref sig .tc .vmem S1x16x16x128 .f32) (harg12 : arg12.IsWhole) (arg13 : Memref sig .tc .vmem S1x16x16x128 .bf16) (harg13 : arg13.IsWhole) (arg14 : Memref sig .tc .vmem S2x1x512x1536 .fp8e4m3) (harg14 : arg14.IsWhole) (arg15 : Memref sig .tc .vmem S12x3072 .f32) (harg15 : arg15.IsWhole) (arg16 : Memref sig .tc .vmem S64x1536 .fp8e4m3) (harg16 : arg16.IsWhole) (arg17 : Memref sig .tc .vmem S512x128 .f32) (harg17 : arg17.IsWhole) (arg18 : Memref sig .tc .vmem S16x16x128 .f32) (harg18 : arg18.IsWhole) (hc0 : cond0_0 i)
    (x0 : Vec F S6 .f32) (x1 : Vec F S6 .f32) (x2 : Vec F S6 .f32) (x3 : Vec F S2x1x512x1536 .bf16) (x4 : Vec F S12x1536 .f32) (x5 : Vec F S12x1536 .f32) (x6 : Vec F S1536x64 .fp8e4m3) (x7 : Vec F S1x64 .f32) (x8 : Vec F S1x64 .f32) (x9 : Vec F S1x16x16x128 .f32) (xs0 : Vec F S64x1536 .fp8e4m3) (x12 : Vec F S2x1x512x1536 .fp8e4m3) (x13 : Vec F S12x3072 .f32) (xs1 : Vec F S512x128 .f32) (xs2 : Vec F S16x16x128 .f32) :
    Σ' (L10 : List (View.Piece (Elt F) S1x16x16x128 .f32)) (L11 : List (View.Piece (Elt F) S1x16x16x128 .bf16)) (L12 : List (View.Piece (Elt F) S2x1x512x1536 .fp8e4m3)) (LS0 : List (View.Piece (Elt F) S64x1536 .fp8e4m3)), { L13 : List (View.Piece (Elt F) S12x3072 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare x12 ∗ owns (c : Thread nD τ) arg15 fullShare x13 ∗ owns (c : Thread nD τ) arg16 fullShare xs0 ∗ owns (c : Thread nD τ) arg17 fullShare xs1 ∗ owns (c : Thread nD τ) arg18 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, (arg12.view.loc (c : Thread nD τ) ↦[arg12.view.set]{fullShare} arg12.view.writes (Elt F) f L10)) ∗ (∃ f, (arg13.view.loc (c : Thread nD τ) ↦[arg13.view.set]{fullShare} arg13.view.writes (Elt F) f L11)) ∗ (arg14.view.loc (c : Thread nD τ) ↦[arg14.view.set]{fullShare} arg14.view.writes (Elt F) (harg14.unread x12) L12) ∗ (arg15.view.loc (c : Thread nD τ) ↦[arg15.view.set]{fullShare} arg15.view.writes (Elt F) (harg15.unread x13) L13) ∗ (∃ f, arg16.view.loc (c : Thread nD τ) ↦[arg16.view.set]{fullShare} arg16.view.writes (Elt F) f LS0) ∗ (∃ d, owns (c : Thread nD τ) arg17 fullShare d) ∗ (∃ d, owns (c : Thread nD τ) arg18 fullShare d)) -∗ K ⟨⟩))
          ⊢ wp frame (wpE (defs₀ (F := F)) Variants.none c none) E (cc0_dit_final i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, ?_, fun E K => ?run⟩
  case run =>
    simp only [cc0_dit_final_eq_skeleton]; unfold cc0_dit_final_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hf12; obtain rfl := harg15.eq_unread hf13; obtain rfl := harg17.eq_unread hfs1; obtain rfl := harg18.eq_unread hfs2; obtain rfl := harg16.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexact H12
    isplitl [H13]; · iexact H13
    isplitl [HS0]; · iexists _; iexact HS0
    isplitl [HS1]
    · iexists _, _; isplitr; swap; · iexact HS1
      ipureintro; rfl
    iexists _, _; isplitr; swap; · iexact HS2
    ipureintro; rfl

end Cert.KernelIdeal.Gen

end
-- ==== Proof.RunB.lean ====
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- THE BODY AT EVERY LATER POINT. As at the first, but the transposed weights are already in their scratch buffer and
    are only read. -/
noncomputable def kernelRun0_B (c : Dev nD) (i : grid0.Coords) (arg2 : Memref sig .tc .smem S6 .f32) (harg2 : arg2.IsWhole) (arg3 : Memref sig .tc .smem S6 .f32) (harg3 : arg3.IsWhole) (arg4 : Memref sig .tc .smem S6 .f32) (harg4 : arg4.IsWhole) (arg5 : Memref sig .tc .vmem S2x1x512x1536 .bf16) (harg5 : arg5.IsWhole) (arg6 : Memref sig .tc .vmem S12x1536 .f32) (harg6 : arg6.IsWhole) (arg7 : Memref sig .tc .vmem S12x1536 .f32) (harg7 : arg7.IsWhole) (arg8 : Memref sig .tc .vmem S1536x64 .fp8e4m3) (harg8 : arg8.IsWhole) (arg9 : Memref sig .tc .vmem S1x64 .f32) (harg9 : arg9.IsWhole) (arg10 : Memref sig .tc .vmem S1x64 .f32) (harg10 : arg10.IsWhole) (arg11 : Memref sig .tc .vmem S1x16x16x128 .f32) (harg11 : arg11.IsWhole) (arg12 : Memref sig .tc .vmem S1x16x16x128 .f32) (harg12 : arg12.IsWhole) (arg13 : Memref sig .tc .vmem S1x16x16x128 .bf16) (harg13 : arg13.IsWhole) (arg14 : Memref sig .tc .vmem S2x1x512x1536 .fp8e4m3) (harg14 : arg14.IsWhole) (arg15 : Memref sig .tc .vmem S12x3072 .f32) (harg15 : arg15.IsWhole) (arg16 : Memref sig .tc .vmem S64x1536 .fp8e4m3) (harg16 : arg16.IsWhole) (arg17 : Memref sig .tc .vmem S512x128 .f32) (harg17 : arg17.IsWhole) (arg18 : Memref sig .tc .vmem S16x16x128 .f32) (harg18 : arg18.IsWhole) (hc0 : ¬cond0_0 i)
    (x0 : Vec F S6 .f32) (x1 : Vec F S6 .f32) (x2 : Vec F S6 .f32) (x3 : Vec F S2x1x512x1536 .bf16) (x4 : Vec F S12x1536 .f32) (x5 : Vec F S12x1536 .f32) (x6 : Vec F S1536x64 .fp8e4m3) (x7 : Vec F S1x64 .f32) (x8 : Vec F S1x64 .f32) (x9 : Vec F S1x16x16x128 .f32) (xs0 : Vec F S64x1536 .fp8e4m3) (x12 : Vec F S2x1x512x1536 .fp8e4m3) (x13 : Vec F S12x3072 .f32) (xs1 : Vec F S512x128 .f32) (xs2 : Vec F S16x16x128 .f32) :
    Σ' (L10 : List (View.Piece (Elt F) S1x16x16x128 .f32)) (L11 : List (View.Piece (Elt F) S1x16x16x128 .bf16)) (L12 : List (View.Piece (Elt F) S2x1x512x1536 .fp8e4m3)), { L13 : List (View.Piece (Elt F) S12x3072 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ d, owns (c : Thread nD τ) arg12 fullShare d) ∗ (∃ d, owns (c : Thread nD τ) arg13 fullShare d) ∗ owns (c : Thread nD τ) arg14 fullShare x12 ∗ owns (c : Thread nD τ) arg15 fullShare x13 ∗ owns (c : Thread nD τ) arg16 fullShare xs0 ∗ owns (c : Thread nD τ) arg17 fullShare xs1 ∗ owns (c : Thread nD τ) arg18 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ (∃ f, (arg12.view.loc (c : Thread nD τ) ↦[arg12.view.set]{fullShare} arg12.view.writes (Elt F) f L10)) ∗ (∃ f, (arg13.view.loc (c : Thread nD τ) ↦[arg13.view.set]{fullShare} arg13.view.writes (Elt F) f L11)) ∗ (arg14.view.loc (c : Thread nD τ) ↦[arg14.view.set]{fullShare} arg14.view.writes (Elt F) (harg14.unread x12) L12) ∗ (arg15.view.loc (c : Thread nD τ) ↦[arg15.view.set]{fullShare} arg15.view.writes (Elt F) (harg15.unread x13) L13) ∗ owns (c : Thread nD τ) arg16 fullShare xs0 ∗ (∃ d, owns (c : Thread nD τ) arg17 fullShare d) ∗ (∃ d, owns (c : Thread nD τ) arg18 fullShare d)) -∗ K ⟨⟩))
          ⊢ wp frame (wpE (defs₀ (F := F)) Variants.none c none) E (cc0_dit_final i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18) K } := by
  refine ⟨?_, ?_, ?_, ?_, fun E K => ?run⟩
  case run =>
    simp only [cc0_dit_final_eq_skeleton]; unfold cc0_dit_final_skel
    simp only [k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%f12, %hf12, H12⟩, ⟨%f13, %hf13, H13⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg14.eq_unread hf12; obtain rfl := harg15.eq_unread hf13; obtain rfl := harg17.eq_unread hfs1; obtain rfl := harg18.eq_unread hfs2; obtain rfl := harg16.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]; · iexists _; iexact H10
    isplitl [H11]; · iexists _; iexact H11
    isplitl [H12]; · iexact H12
    isplitl [H13]; · iexact H13
    isplitl [HS0]
    · iexists _; isplitr; · ipureintro; exact harg16.read_unread _
      iexact HS0
    isplitl [HS1]
    · iexists _, _; isplitr; swap; · iexact HS1
      ipureintro; rfl
    iexists _, _; isplitr; swap; · iexact HS2
    ipureintro; rfl

end Cert.KernelIdeal.Gen

end
-- ==== Proof.RunVal.lean ====
/- What a grid point's stores leave, as values of its blocks. -/
module

public import proofs.«01_k».proof.Proof.Core
public import proofs.«01_k».proof.Proof.RunB

@[expose] public section

set_option maxRecDepth 16384

noncomputable section

namespace Cert.RunVal
open Idealize.ShloMosaic Idealize.ShloMosaic.TcCoe Cert.KernelIdeal Cert.KernelIdeal.Gen Cert.Row Cert.Loop Cert.Core
open scoped BigOperators

section
variable (c : Dev nD) (i : grid0.Coords) (arg2 : Memref sig .tc .smem S6 .f32) (harg2 : arg2.IsWhole) (arg3 : Memref sig .tc .smem S6 .f32) (harg3 : arg3.IsWhole) (arg4 : Memref sig .tc .smem S6 .f32) (harg4 : arg4.IsWhole) (arg5 : Memref sig .tc .vmem S2x1x512x1536 .bf16) (harg5 : arg5.IsWhole) (arg6 : Memref sig .tc .vmem S12x1536 .f32) (harg6 : arg6.IsWhole) (arg7 : Memref sig .tc .vmem S12x1536 .f32) (harg7 : arg7.IsWhole) (arg8 : Memref sig .tc .vmem S1536x64 .fp8e4m3) (harg8 : arg8.IsWhole) (arg9 : Memref sig .tc .vmem S1x64 .f32) (harg9 : arg9.IsWhole) (arg10 : Memref sig .tc .vmem S1x64 .f32) (harg10 : arg10.IsWhole) (arg11 : Memref sig .tc .vmem S1x16x16x128 .f32) (harg11 : arg11.IsWhole) (arg12 : Memref sig .tc .vmem S1x16x16x128 .f32) (harg12 : arg12.IsWhole) (arg13 : Memref sig .tc .vmem S1x16x16x128 .bf16) (harg13 : arg13.IsWhole) (arg14 : Memref sig .tc .vmem S2x1x512x1536 .fp8e4m3) (harg14 : arg14.IsWhole) (arg15 : Memref sig .tc .vmem S12x3072 .f32) (harg15 : arg15.IsWhole) (arg16 : Memref sig .tc .vmem S64x1536 .fp8e4m3) (harg16 : arg16.IsWhole) (arg17 : Memref sig .tc .vmem S512x128 .f32) (harg17 : arg17.IsWhole) (arg18 : Memref sig .tc .vmem S16x16x128 .f32) (harg18 : arg18.IsWhole)

/-- The first loop's pieces. -/
theorem loop1 (x3 : Vec Ideal S2x1x512x1536 .bf16) (x4 x5 : Vec Ideal S12x1536 .f32) (v7 v11 : Vec Ideal S1x1536 .f32)
    (b7 : ∀ a, k0_off1 i 0#32 a + S1x1536.size a ≤ S12x1536.size a)
    (h7 : v7 = (View.readAt (Elt Ideal) arg7.view (Rect.unit (s := S12x1536) (k0_off1 i 0#32) S1x1536.size b7).toLoadRect (harg7.unread x5)))
    (h11 : v11 = (View.readAt (Elt Ideal) arg6.view (Rect.unit (s := S12x1536) (k0_off1 i 0#32) S1x1536.size b7).toLoadRect (harg6.unread x4)))
    (T : List (View.Piece (Elt Ideal) S2x1x512x1536 .fp8e4m3) × List (View.Piece (Elt Ideal) S512x128 .f32))
    (hT : T = pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 (harg5.unread x3) (Scf.trips k0_t1_loop.lb k0_t1_loop.ub k0_t1_loop.st)) :
    Conf (e := .fp8e4m3) (codesG x3 (mrow i x5) (mrow i x4)) T.1 ∧ Conf (e := .f32) (scaleG x3 (mrow i x5) (mrow i x4) 0) T.2 ∧
    (∀ (r : Fin 512) (k : Fin 1536), ∃ p ∈ T.1, (ix4 0 0 r k : S2x1x512x1536.Idx) ∈ p.1.set) ∧
    (∀ (r : Fin 512) (l : Fin 128), ∃ p ∈ T.2, (ix2 r l : S512x128.Idx) ∈ p.1.set) := by
  have e7 : Pay.rv v7 = mrow i x5 0 := by
    rw [h7]; exact mod_at arg7 harg7 x5 0 (bi i) _ ((off1_0 i).trans (by show ![(i 0).val, 0] = ![0 * 6 + (i 0).val, 0]; rw [Nat.zero_mul, Nat.zero_add])) b7
  have e11 : Pay.rv v11 = mrow i x4 0 := by
    rw [h11]; exact mod_at arg6 harg6 x4 0 (bi i) _ ((off1_0 i).trans (by show ![(i 0).val, 0] = ![0 * 6 + (i 0).val, 0]; rw [Nat.zero_mul, Nat.zero_add])) b7
  have hn : Scf.trips k0_t1_loop.lb k0_t1_loop.ub k0_t1_loop.st = 8 := by decide +kernel
  rw [hn] at hT
  subst hT
  obtain ⟨q1, q2, q3, q4⟩ := loop1_ok c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 v7 v11 x3 (mrow i x5) (mrow i x4) e7 e11 8 le_rfl
  exact ⟨q1, q2, fun r k => q3 r k r.isLt, fun r l => q4 r l r.isLt⟩

/-- The second loop's pieces. -/
theorem loop2 (x3 : Vec Ideal S2x1x512x1536 .bf16) (x4 x5 : Vec Ideal S12x1536 .f32) (arg0 : BitVec 32) (v25 : FVec Ideal S1x512 .f32)
    (v31 : Vec Ideal S64x1536 .fp8e4m3) (v49 v53 : Vec Ideal S1x1536 .f32)
    (b7 : ∀ a, k0_off1 i 6#32 a + S1x1536.size a ≤ S12x1536.size a)
    (h7 : v49 = (View.readAt (Elt Ideal) arg7.view (Rect.unit (s := S12x1536) (k0_off1 i 6#32) S1x1536.size b7).toLoadRect (harg7.unread x5)))
    (h11 : v53 = (View.readAt (Elt Ideal) arg6.view (Rect.unit (s := S12x1536) (k0_off1 i 6#32) S1x1536.size b7).toLoadRect (harg6.unread x4)))
    (T : List (View.Piece (Elt Ideal) S2x1x512x1536 .fp8e4m3) × List (View.Piece (Elt Ideal) S512x128 .f32))
    (hT : T = pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 (harg5.unread x3) (Scf.trips k0_t2_loop.lb k0_t2_loop.ub k0_t2_loop.st)) :
    Conf (e := .fp8e4m3) (codesG x3 (mrow i x5) (mrow i x4)) T.1 ∧ Conf (e := .f32) (scaleG x3 (mrow i x5) (mrow i x4) 1) T.2 ∧
    (∀ (r : Fin 512) (k : Fin 1536), ∃ p ∈ T.1, (ix4 1 0 r k : S2x1x512x1536.Idx) ∈ p.1.set) ∧
    (∀ (r : Fin 512) (l : Fin 128), ∃ p ∈ T.2, (ix2 r l : S512x128.Idx) ∈ p.1.set) := by
  have e7 : Pay.rv v49 = mrow i x5 1 := by
    rw [h7]; exact mod_at arg7 harg7 x5 1 (bi i) _ ((off1_6 i).trans (by show ![6 + (i 0).val, 0] = ![1 * 6 + (i 0).val, 0]; rw [Nat.one_mul])) b7
  have e11 : Pay.rv v53 = mrow i x4 1 := by
    rw [h11]; exact mod_at arg6 harg6 x4 1 (bi i) _ ((off1_6 i).trans (by show ![6 + (i 0).val, 0] = ![1 * 6 + (i 0).val, 0]; rw [Nat.one_mul])) b7
  have hn : Scf.trips k0_t2_loop.lb k0_t2_loop.ub k0_t2_loop.st = 8 := by decide +kernel
  rw [hn] at hT
  subst hT
  obtain ⟨q1, q2, q3, q4⟩ := loop2_ok c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg0 v25 v31 v49 v53 x3 (mrow i x5) (mrow i x4) e7 e11 8 le_rfl
  exact ⟨q1, q2, fun r k => q3 r k r.isLt, fun r l => q4 r l r.isLt⟩

/-- Both loops' codes together. -/
theorem both (G : S2x1x512x1536.Idx → EReal) (L M : List (View.Piece (Elt Ideal) S2x1x512x1536 .fp8e4m3))
    (hL : Conf (e := .fp8e4m3) G L) (hM : Conf (e := .fp8e4m3) G M)
    (cL : ∀ (r : Fin 512) (k : Fin 1536), ∃ p ∈ L, (ix4 1 0 r k : S2x1x512x1536.Idx) ∈ p.1.set)
    (cM : ∀ (r : Fin 512) (k : Fin 1536), ∃ p ∈ M, (ix4 0 0 r k : S2x1x512x1536.Idx) ∈ p.1.set) :
    Conf (e := .fp8e4m3) G (L ++ M) ∧ ∀ y, ∃ p ∈ L ++ M, y ∈ p.1.set := by
  refine ⟨fun p hp => (List.mem_append.mp hp).elim (hL p) (hM p), fun y => ?_⟩
  obtain ⟨h, z, r, k, rfl⟩ : ∃ (h : Fin 2) (z : Fin 1) (r : Fin 512) (k : Fin 1536), y = ix4 h z r k := ⟨y 0, y 1, y 2, y 3, eq_ix4 y⟩
  obtain rfl : z = 0 := Subsingleton.elim _ _
  match h with
  | 0 => obtain ⟨p, hp, hm⟩ := cM r k; exact ⟨p, List.mem_append_right _ hp, hm⟩
  | 1 => obtain ⟨p, hp, hm⟩ := cL r k; exact ⟨p, List.mem_append_left _ hp, hm⟩

/-- The guided block of equal weights, scales, bias and guidance. -/
theorem gui_congr (X : Vec Ideal S2x1x512x1536 .bf16) (sc sh : Fin 2 → Fin 1536 → EReal) {wt wt' : Vec Ideal S64x1536 .fp8e4m3}
    {ws ws' bo bo' : Vec Ideal S1x64 .f32} {g g' : EReal} (h1 : wt = wt') (h2 : ws = ws') (h3 : bo = bo') (h4 : g = g') :
    gui X sc sh wt ws bo g = gui X sc sh wt' ws' bo' g' := by
  rw [h1, h2, h3, h4]

section A

/-- The first half's strip of scales. -/
theorem strip0_A (hc0 : cond0_0 i) (x0 : Vec Ideal S6 .f32) (x1 : Vec Ideal S6 .f32) (x2 : Vec Ideal S6 .f32) (x3 : Vec Ideal S2x1x512x1536 .bf16) (x4 : Vec Ideal S12x1536 .f32) (x5 : Vec Ideal S12x1536 .f32) (x6 : Vec Ideal S1536x64 .fp8e4m3) (x7 : Vec Ideal S1x64 .f32) (x8 : Vec Ideal S1x64 .f32) (x9 : Vec Ideal S1x16x16x128 .f32) (xs0 : Vec Ideal S64x1536 .fp8e4m3) (x12 : Vec Ideal S2x1x512x1536 .fp8e4m3) (x13 : Vec Ideal S12x3072 .f32) (xs1 : Vec Ideal S512x128 .f32) (xs2 : Vec Ideal S16x16x128 .f32) (j : Fin 512) : (k0_pay24 (F := Ideal) (kernelRun0_A.sl.v13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_A.sl.v16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_A.sl.v19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_A.sl.v22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (ix2 0 j) : EReal) = scl x3 (mrow i x5) (mrow i x4) 0 j := by
  obtain ⟨a1, a2, a3, a4⟩ := loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 _ _ (k0_off1_inb i 0) rfl rfl (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (View.readAt (Elt Ideal) arg7.view (Rect.unit (s := S12x1536) (k0_off1 i 0#32) S1x1536.size _).toLoadRect (harg7.unread x5)) (View.readAt (Elt Ideal) arg6.view (Rect.unit (s := S12x1536) (k0_off1 i 0#32) S1x1536.size _).toLoadRect (harg6.unread x4)) (harg5.unread x3) (Scf.trips k0_t1_loop.lb k0_t1_loop.ub k0_t1_loop.st)) rfl
  delta kernelRun0_A.sl.v13 kernelRun0_A.sl.v16 kernelRun0_A.sl.v19 kernelRun0_A.sl.v22
  exact strip x3 (mrow i x5) (mrow i x4) arg17.view _ 0 _ a2 a4 _ _ _ _ j

/-- The second half's strip of scales. -/
theorem strip1_A (hc0 : cond0_0 i) (x0 : Vec Ideal S6 .f32) (x1 : Vec Ideal S6 .f32) (x2 : Vec Ideal S6 .f32) (x3 : Vec Ideal S2x1x512x1536 .bf16) (x4 : Vec Ideal S12x1536 .f32) (x5 : Vec Ideal S12x1536 .f32) (x6 : Vec Ideal S1536x64 .fp8e4m3) (x7 : Vec Ideal S1x64 .f32) (x8 : Vec Ideal S1x64 .f32) (x9 : Vec Ideal S1x16x16x128 .f32) (xs0 : Vec Ideal S64x1536 .fp8e4m3) (x12 : Vec Ideal S2x1x512x1536 .fp8e4m3) (x13 : Vec Ideal S12x3072 .f32) (xs1 : Vec Ideal S512x128 .f32) (xs2 : Vec Ideal S16x16x128 .f32) (j : Fin 512) : (k0_pay33 (F := Ideal) (kernelRun0_A.sl.r_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 xs1) (kernelRun0_A.sl.r_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 xs1) (kernelRun0_A.sl.r_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 xs1) (kernelRun0_A.sl.r_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 xs1) (ix2 0 j) : EReal) = scl x3 (mrow i x5) (mrow i x4) 1 j := by
  obtain ⟨a1, a2, a3, a4⟩ := loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 _ _ (k0_off1_inb i 0) rfl rfl (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (View.readAt (Elt Ideal) arg7.view (Rect.unit (s := S12x1536) (k0_off1 i 0#32) S1x1536.size _).toLoadRect (harg7.unread x5)) (View.readAt (Elt Ideal) arg6.view (Rect.unit (s := S12x1536) (k0_off1 i 0#32) S1x1536.size _).toLoadRect (harg6.unread x4)) (harg5.unread x3) (Scf.trips k0_t1_loop.lb k0_t1_loop.ub k0_t1_loop.st)) rfl
  obtain ⟨b1, b2, b3, b4⟩ := loop2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 (BitVec.ofNat 32 (i 0).val) (kernelRun0_A.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_A.sl.v31 (F := Ideal) c arg8 harg8 arg16 x6) _ _ (k0_off1_inb i 1) rfl rfl (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (kernelRun0_A.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_A.sl.v31 (F := Ideal) c arg8 harg8 arg16 x6) (View.readAt (Elt Ideal) arg7.view (Rect.unit (s := S12x1536) (k0_off1 i 6#32) S1x1536.size _).toLoadRect (harg7.unread x5)) (View.readAt (Elt Ideal) arg6.view (Rect.unit (s := S12x1536) (k0_off1 i 6#32) S1x1536.size _).toLoadRect (harg6.unread x4)) (harg5.unread x3) (Scf.trips k0_t2_loop.lb k0_t2_loop.ub k0_t2_loop.st)) rfl
  delta kernelRun0_A.sl.r_2 kernelRun0_A.sl.r_3 kernelRun0_A.sl.r_4 kernelRun0_A.sl.r_5 kernelRun0_A.sl.v55 kernelRun0_A.sl.v58 kernelRun0_A.sl.v61 kernelRun0_A.sl.v64
  rw [View.writes_append]
  refine (congrFun (Guide.strip_eq _ _ _ _) _).trans ?_
  exact strip x3 (mrow i x5) (mrow i x4) arg17.view _ 1 _ b2 b4 _ _ _ _ j

/-- The transposed weights' pieces. -/
theorem wts_A (hc0 : cond0_0 i) (x0 : Vec Ideal S6 .f32) (x1 : Vec Ideal S6 .f32) (x2 : Vec Ideal S6 .f32) (x3 : Vec Ideal S2x1x512x1536 .bf16) (x4 : Vec Ideal S12x1536 .f32) (x5 : Vec Ideal S12x1536 .f32) (x6 : Vec Ideal S1536x64 .fp8e4m3) (x7 : Vec Ideal S1x64 .f32) (x8 : Vec Ideal S1x64 .f32) (x9 : Vec Ideal S1x16x16x128 .f32) (xs0 : Vec Ideal S64x1536 .fp8e4m3) (x12 : Vec Ideal S2x1x512x1536 .fp8e4m3) (x13 : Vec Ideal S12x3072 .f32) (xs1 : Vec Ideal S512x128 .f32) (xs2 : Vec Ideal S16x16x128 .f32) : Conf (e := .fp8e4m3) (wtG x6) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).2.2.2.1 ∧ ∀ y, ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).2.2.2.1, y ∈ p.1.set := by
  refine whole_piece (e := .fp8e4m3) (wtG x6) ![0, 0] z2 S64x1536.size rfl inb_S64x1536_S64x1536_0_0 _ ?_ _ (by delta kernelRun0_A kernelRun0_A.sl.HS0_1; rfl)
  intro x
  rw [whole_at arg8 harg8 x6 ![0, 0] z2, pay20_eq]
  exact congrArg (wtG x6) (funext fun q => rfl)

theorem wt_A (x6 : Vec Ideal S1536x64 .fp8e4m3) : (kernelRun0_A.sl.v31 (F := Ideal) c arg8 harg8 arg16 x6) = wtG x6 := by
  delta kernelRun0_A.sl.v31
  have h : Conf (e := .fp8e4m3) (wtG x6) (kernelRun0_A.sl.HS0_1 (F := Ideal) c arg8 harg8 x6) ∧ ∀ y, ∃ p ∈ kernelRun0_A.sl.HS0_1 (F := Ideal) c arg8 harg8 x6, y ∈ p.1.set := by
    refine whole_piece (e := .fp8e4m3) (wtG x6) ![0, 0] z2 S64x1536.size rfl inb_S64x1536_S64x1536_0_0 _ ?_ _ (by delta kernelRun0_A.sl.HS0_1; rfl)
    intro x
    rw [whole_at arg8 harg8 x6 ![0, 0] z2, pay20_eq]
    exact congrArg (wtG x6) (funext fun q => rfl)
  refine cov_read arg16.view (wtG x6) _ h.1 h.2 ![0, 0] z2 _

/-- The guided block. -/
theorem blk_A (hc0 : cond0_0 i) (x0 : Vec Ideal S6 .f32) (x1 : Vec Ideal S6 .f32) (x2 : Vec Ideal S6 .f32) (x3 : Vec Ideal S2x1x512x1536 .bf16) (x4 : Vec Ideal S12x1536 .f32) (x5 : Vec Ideal S12x1536 .f32) (x6 : Vec Ideal S1536x64 .fp8e4m3) (x7 : Vec Ideal S1x64 .f32) (x8 : Vec Ideal S1x64 .f32) (x9 : Vec Ideal S1x16x16x128 .f32) (xs0 : Vec Ideal S64x1536 .fp8e4m3) (x12 : Vec Ideal S2x1x512x1536 .fp8e4m3) (x13 : Vec Ideal S12x3072 .f32) (xs1 : Vec Ideal S512x128 .f32) (xs2 : Vec Ideal S16x16x128 .f32) : kernelRun0_A.sl.r_9 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 x8 x12 xs1 = blk i x0 x3 x4 x5 (wtG x6) x7 x8 := by
  obtain ⟨a1, a2, a3, a4⟩ := loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 _ _ (k0_off1_inb i 0) rfl rfl (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (View.readAt (Elt Ideal) arg7.view (Rect.unit (s := S12x1536) (k0_off1 i 0#32) S1x1536.size _).toLoadRect (harg7.unread x5)) (View.readAt (Elt Ideal) arg6.view (Rect.unit (s := S12x1536) (k0_off1 i 0#32) S1x1536.size _).toLoadRect (harg6.unread x4)) (harg5.unread x3) (Scf.trips k0_t1_loop.lb k0_t1_loop.ub k0_t1_loop.st)) rfl
  obtain ⟨b1, b2, b3, b4⟩ := loop2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 (BitVec.ofNat 32 (i 0).val) (kernelRun0_A.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_A.sl.v31 (F := Ideal) c arg8 harg8 arg16 x6) _ _ (k0_off1_inb i 1) rfl rfl (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (kernelRun0_A.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_A.sl.v31 (F := Ideal) c arg8 harg8 arg16 x6) (View.readAt (Elt Ideal) arg7.view (Rect.unit (s := S12x1536) (k0_off1 i 6#32) S1x1536.size _).toLoadRect (harg7.unread x5)) (View.readAt (Elt Ideal) arg6.view (Rect.unit (s := S12x1536) (k0_off1 i 6#32) S1x1536.size _).toLoadRect (harg6.unread x4)) (harg5.unread x3) (Scf.trips k0_t2_loop.lb k0_t2_loop.ub k0_t2_loop.st)) rfl
  have hcc := both _ _ _ b1 a1 b3 a3
  have s0 := strip0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2
  have s1 := strip1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2
  have hw := wt_A c arg8 harg8 arg16 x6
  delta kernelRun0_A.sl.r_9 kernelRun0_A.sl.r_1 kernelRun0_A.sl.r kernelRun0_A.sl.r_6 kernelRun0_A.sl.v32 kernelRun0_A.sl.v74 kernelRun0_A.sl.v73
  have e9 := whole_at arg9 harg9 x7 ![0, 0] z2 inb_S1x64_S1x64_0_0
  have e10 := whole_at arg10 harg10 x8 ![0, 0] z2 inb_S1x64_S1x64_0_0
  have eg := scalar_at arg2 harg2 x0 (bi i) (k0_off7 i) (off7_eq i) (k0_off7_inb i) (by decide)
  refine (guided x3 (mrow i x5) (mrow i x4) _ _ _ _ _ _ _ _ _ _ _ s0 s1
    (fun j k => codes x3 (mrow i x5) (mrow i x4) arg14.view _ 0 _ a1 a3 _ rfl _ j k)
    (fun j k => codes x3 (mrow i x5) (mrow i x4) arg14.view _ 1 _ hcc.1 (fun r k => hcc.2 _) _ rfl _ j k)).trans ?_
  exact gui_congr x3 _ _ hw e9 e10 eg

/-- The image block. -/
theorem img_A (hc0 : cond0_0 i) (x0 : Vec Ideal S6 .f32) (x1 : Vec Ideal S6 .f32) (x2 : Vec Ideal S6 .f32) (x3 : Vec Ideal S2x1x512x1536 .bf16) (x4 : Vec Ideal S12x1536 .f32) (x5 : Vec Ideal S12x1536 .f32) (x6 : Vec Ideal S1536x64 .fp8e4m3) (x7 : Vec Ideal S1x64 .f32) (x8 : Vec Ideal S1x64 .f32) (x9 : Vec Ideal S1x16x16x128 .f32) (xs0 : Vec Ideal S64x1536 .fp8e4m3) (x12 : Vec Ideal S2x1x512x1536 .fp8e4m3) (x13 : Vec Ideal S12x3072 .f32) (xs1 : Vec Ideal S512x128 .f32) (xs2 : Vec Ideal S16x16x128 .f32) : kernelRun0_A.sl.v673 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x6 x7 x8 x12 xs1 = Stage.imgF (blk i x0 x3 x4 x5 (wtG x6) x7 x8) := by
  rw [← blk_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2]
  delta kernelRun0_A.sl.v673
  exact img_read arg18.view _ _ (by delta kernelRun0_A.sl.HS2_16; rfl) ![0, 0, 0] z3 _

/-- WHAT THE POINT LEAVES: the latent, the velocity, the codes and the scales. -/
theorem lat_A (hc0 : cond0_0 i) (x0 : Vec Ideal S6 .f32) (x1 : Vec Ideal S6 .f32) (x2 : Vec Ideal S6 .f32) (x3 : Vec Ideal S2x1x512x1536 .bf16) (x4 : Vec Ideal S12x1536 .f32) (x5 : Vec Ideal S12x1536 .f32) (x6 : Vec Ideal S1536x64 .fp8e4m3) (x7 : Vec Ideal S1x64 .f32) (x8 : Vec Ideal S1x64 .f32) (x9 : Vec Ideal S1x16x16x128 .f32) (xs0 : Vec Ideal S64x1536 .fp8e4m3) (x12 : Vec Ideal S2x1x512x1536 .fp8e4m3) (x13 : Vec Ideal S12x3072 .f32) (xs1 : Vec Ideal S512x128 .f32) (xs2 : Vec Ideal S16x16x128 .f32) : Conf (e := .f32) (latG i x0 x1 x2 x3 x4 x5 (wtG x6) x7 x8 x9) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).1 ∧ ∀ y, ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).1, y ∈ p.1.set := by
  refine whole_piece (e := .f32) _ ![0, 0, 0, 0] z4 S1x16x16x128.size rfl inb_S1x16x16x128_S1x16x16x128_0_0_0_0 _ ?_ _ (by delta kernelRun0_A; rfl)
  intro x
  refine (lat_piece _ _ _ x).trans ?_
  rw [congrFun (img_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2) (ix3 (x 1) (x 2) (x 3)), whole_at arg11 harg11 x9 ![0, 0, 0, 0] z4]
  delta kernelRun0_A.sl.r_10
  have et := scalar_at arg4 harg4 x2 (bi i) (k0_off7 i) (off7_eq i) (k0_off7_inb i) (by decide)
  have eu := scalar_at arg3 harg3 x1 (bi i) (k0_off7 i) (off7_eq i) (k0_off7_inb i) (by decide)
  have hd : (k0_pay35 (F := Ideal) (kernelRun0_A.sl.r_7 (F := Ideal) c i arg4 harg4 x2) (kernelRun0_A.sl.r_8 (F := Ideal) c i arg3 harg3 x1) : EReal)
      = x2 (ix1 (bi i)) - x1 (ix1 (bi i)) := congrArg₂ (fun p q : EReal => p - q) et eu
  rw [hd]
  rfl

theorem vel_A (hc0 : cond0_0 i) (x0 : Vec Ideal S6 .f32) (x1 : Vec Ideal S6 .f32) (x2 : Vec Ideal S6 .f32) (x3 : Vec Ideal S2x1x512x1536 .bf16) (x4 : Vec Ideal S12x1536 .f32) (x5 : Vec Ideal S12x1536 .f32) (x6 : Vec Ideal S1536x64 .fp8e4m3) (x7 : Vec Ideal S1x64 .f32) (x8 : Vec Ideal S1x64 .f32) (x9 : Vec Ideal S1x16x16x128 .f32) (xs0 : Vec Ideal S64x1536 .fp8e4m3) (x12 : Vec Ideal S2x1x512x1536 .fp8e4m3) (x13 : Vec Ideal S12x3072 .f32) (xs1 : Vec Ideal S512x128 .f32) (xs2 : Vec Ideal S16x16x128 .f32) : Conf (e := .bf16) (velG i x0 x3 x4 x5 (wtG x6) x7 x8) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).2.1 ∧ ∀ y, ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).2.1, y ∈ p.1.set := by
  refine whole_piece (e := .bf16) _ ![0, 0, 0, 0] z4 ![1, 16, 16, 128] (by decide) inb_S1x16x16x128_S1x16x16x128_0_0_0_0 _ ?_ _ (by delta kernelRun0_A; rfl)
  intro x
  delta kernelRun0_A.sl.r_39
  refine (vel_piece _ x).trans ?_
  exact congrFun (img_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2) (ix3 (x 1) (x 2) (x 3))

theorem cds_A (hc0 : cond0_0 i) (x0 : Vec Ideal S6 .f32) (x1 : Vec Ideal S6 .f32) (x2 : Vec Ideal S6 .f32) (x3 : Vec Ideal S2x1x512x1536 .bf16) (x4 : Vec Ideal S12x1536 .f32) (x5 : Vec Ideal S12x1536 .f32) (x6 : Vec Ideal S1536x64 .fp8e4m3) (x7 : Vec Ideal S1x64 .f32) (x8 : Vec Ideal S1x64 .f32) (x9 : Vec Ideal S1x16x16x128 .f32) (xs0 : Vec Ideal S64x1536 .fp8e4m3) (x12 : Vec Ideal S2x1x512x1536 .fp8e4m3) (x13 : Vec Ideal S12x3072 .f32) (xs1 : Vec Ideal S512x128 .f32) (xs2 : Vec Ideal S16x16x128 .f32) : Conf (e := .fp8e4m3) (cdsG i x3 x4 x5) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).2.2.1 ∧ ∀ y, ∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).2.2.1, y ∈ p.1.set := by
  obtain ⟨a1, a2, a3, a4⟩ := loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 _ _ (k0_off1_inb i 0) rfl rfl (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (View.readAt (Elt Ideal) arg7.view (Rect.unit (s := S12x1536) (k0_off1 i 0#32) S1x1536.size _).toLoadRect (harg7.unread x5)) (View.readAt (Elt Ideal) arg6.view (Rect.unit (s := S12x1536) (k0_off1 i 0#32) S1x1536.size _).toLoadRect (harg6.unread x4)) (harg5.unread x3) (Scf.trips k0_t1_loop.lb k0_t1_loop.ub k0_t1_loop.st)) rfl
  obtain ⟨b1, b2, b3, b4⟩ := loop2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 (BitVec.ofNat 32 (i 0).val) (kernelRun0_A.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_A.sl.v31 (F := Ideal) c arg8 harg8 arg16 x6) _ _ (k0_off1_inb i 1) rfl rfl (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (kernelRun0_A.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_A.sl.v31 (F := Ideal) c arg8 harg8 arg16 x6) (View.readAt (Elt Ideal) arg7.view (Rect.unit (s := S12x1536) (k0_off1 i 6#32) S1x1536.size _).toLoadRect (harg7.unread x5)) (View.readAt (Elt Ideal) arg6.view (Rect.unit (s := S12x1536) (k0_off1 i 6#32) S1x1536.size _).toLoadRect (harg6.unread x4)) (harg5.unread x3) (Scf.trips k0_t2_loop.lb k0_t2_loop.ub k0_t2_loop.st)) rfl
  have hcc := both _ _ _ b1 a1 b3 a3
  delta kernelRun0_A
  exact hcc

theorem xs_A (hc0 : cond0_0 i) (x0 : Vec Ideal S6 .f32) (x1 : Vec Ideal S6 .f32) (x2 : Vec Ideal S6 .f32) (x3 : Vec Ideal S2x1x512x1536 .bf16) (x4 : Vec Ideal S12x1536 .f32) (x5 : Vec Ideal S12x1536 .f32) (x6 : Vec Ideal S1536x64 .fp8e4m3) (x7 : Vec Ideal S1x64 .f32) (x8 : Vec Ideal S1x64 .f32) (x9 : Vec Ideal S1x16x16x128 .f32) (xs0 : Vec Ideal S64x1536 .fp8e4m3) (x12 : Vec Ideal S2x1x512x1536 .fp8e4m3) (x13 : Vec Ideal S12x3072 .f32) (xs1 : Vec Ideal S512x128 .f32) (xs2 : Vec Ideal S16x16x128 .f32) : Conf (e := .f32) (xsG i x3 x4 x5) (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).2.2.2.2.1 ∧ ∀ y, (∃ p ∈ (kernelRun0_A (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).2.2.2.2.1, y ∈ p.1.set) ↔ InStrip i y := by
  refine strips i (xsG i x3 x4 x5) (scl x3 (mrow i x5) (mrow i x4)) (xsG_at i x3 x4 x5)
    (k0_pay33 (F := Ideal) (kernelRun0_A.sl.r_2 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 xs1) (kernelRun0_A.sl.r_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 xs1) (kernelRun0_A.sl.r_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 xs1) (kernelRun0_A.sl.r_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 x6 xs1)) (k0_pay24 (F := Ideal) (kernelRun0_A.sl.v13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_A.sl.v16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_A.sl.v19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_A.sl.v22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1))
    (strip1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2) (strip0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2) (k0_off4_inb i 1) (k0_off4_inb i 0) _ (by delta kernelRun0_A; rfl)

end A

section B

/-- The first half's strip of scales. -/
theorem strip0_B (hc0 : ¬cond0_0 i) (x0 : Vec Ideal S6 .f32) (x1 : Vec Ideal S6 .f32) (x2 : Vec Ideal S6 .f32) (x3 : Vec Ideal S2x1x512x1536 .bf16) (x4 : Vec Ideal S12x1536 .f32) (x5 : Vec Ideal S12x1536 .f32) (x6 : Vec Ideal S1536x64 .fp8e4m3) (x7 : Vec Ideal S1x64 .f32) (x8 : Vec Ideal S1x64 .f32) (x9 : Vec Ideal S1x16x16x128 .f32) (xs0 : Vec Ideal S64x1536 .fp8e4m3) (x12 : Vec Ideal S2x1x512x1536 .fp8e4m3) (x13 : Vec Ideal S12x3072 .f32) (xs1 : Vec Ideal S512x128 .f32) (xs2 : Vec Ideal S16x16x128 .f32) (j : Fin 512) : (k0_pay24 (F := Ideal) (kernelRun0_B.sl.v13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_B.sl.v16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_B.sl.v19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_B.sl.v22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (ix2 0 j) : EReal) = scl x3 (mrow i x5) (mrow i x4) 0 j := by
  obtain ⟨a1, a2, a3, a4⟩ := loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 _ _ (k0_off1_inb i 0) rfl rfl (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (View.readAt (Elt Ideal) arg7.view (Rect.unit (s := S12x1536) (k0_off1 i 0#32) S1x1536.size _).toLoadRect (harg7.unread x5)) (View.readAt (Elt Ideal) arg6.view (Rect.unit (s := S12x1536) (k0_off1 i 0#32) S1x1536.size _).toLoadRect (harg6.unread x4)) (harg5.unread x3) (Scf.trips k0_t1_loop.lb k0_t1_loop.ub k0_t1_loop.st)) rfl
  delta kernelRun0_B.sl.v13 kernelRun0_B.sl.v16 kernelRun0_B.sl.v19 kernelRun0_B.sl.v22
  exact strip x3 (mrow i x5) (mrow i x4) arg17.view _ 0 _ a2 a4 _ _ _ _ j

/-- The second half's strip of scales. -/
theorem strip1_B (hc0 : ¬cond0_0 i) (x0 : Vec Ideal S6 .f32) (x1 : Vec Ideal S6 .f32) (x2 : Vec Ideal S6 .f32) (x3 : Vec Ideal S2x1x512x1536 .bf16) (x4 : Vec Ideal S12x1536 .f32) (x5 : Vec Ideal S12x1536 .f32) (x6 : Vec Ideal S1536x64 .fp8e4m3) (x7 : Vec Ideal S1x64 .f32) (x8 : Vec Ideal S1x64 .f32) (x9 : Vec Ideal S1x16x16x128 .f32) (xs0 : Vec Ideal S64x1536 .fp8e4m3) (x12 : Vec Ideal S2x1x512x1536 .fp8e4m3) (x13 : Vec Ideal S12x3072 .f32) (xs1 : Vec Ideal S512x128 .f32) (xs2 : Vec Ideal S16x16x128 .f32) (j : Fin 512) : (k0_pay33 (F := Ideal) (kernelRun0_B.sl.r_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs0 xs1) (kernelRun0_B.sl.r_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs0 xs1) (kernelRun0_B.sl.r_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs0 xs1) (kernelRun0_B.sl.r_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs0 xs1) (ix2 0 j) : EReal) = scl x3 (mrow i x5) (mrow i x4) 1 j := by
  obtain ⟨a1, a2, a3, a4⟩ := loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 _ _ (k0_off1_inb i 0) rfl rfl (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (View.readAt (Elt Ideal) arg7.view (Rect.unit (s := S12x1536) (k0_off1 i 0#32) S1x1536.size _).toLoadRect (harg7.unread x5)) (View.readAt (Elt Ideal) arg6.view (Rect.unit (s := S12x1536) (k0_off1 i 0#32) S1x1536.size _).toLoadRect (harg6.unread x4)) (harg5.unread x3) (Scf.trips k0_t1_loop.lb k0_t1_loop.ub k0_t1_loop.st)) rfl
  obtain ⟨b1, b2, b3, b4⟩ := loop2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 (BitVec.ofNat 32 (i 0).val) (kernelRun0_B.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_B.sl.r_1 (F := Ideal) c arg16 harg16 xs0) _ _ (k0_off1_inb i 1) rfl rfl (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (kernelRun0_B.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_B.sl.r_1 (F := Ideal) c arg16 harg16 xs0) (View.readAt (Elt Ideal) arg7.view (Rect.unit (s := S12x1536) (k0_off1 i 6#32) S1x1536.size _).toLoadRect (harg7.unread x5)) (View.readAt (Elt Ideal) arg6.view (Rect.unit (s := S12x1536) (k0_off1 i 6#32) S1x1536.size _).toLoadRect (harg6.unread x4)) (harg5.unread x3) (Scf.trips k0_t2_loop.lb k0_t2_loop.ub k0_t2_loop.st)) rfl
  delta kernelRun0_B.sl.r_3 kernelRun0_B.sl.r_4 kernelRun0_B.sl.r_5 kernelRun0_B.sl.r_6 kernelRun0_B.sl.v55 kernelRun0_B.sl.v58 kernelRun0_B.sl.v61 kernelRun0_B.sl.v64
  rw [View.writes_append]
  refine (congrFun (Guide.strip_eq _ _ _ _) _).trans ?_
  exact strip x3 (mrow i x5) (mrow i x4) arg17.view _ 1 _ b2 b4 _ _ _ _ j

theorem wt_B (xs0 : Vec Ideal S64x1536 .fp8e4m3) : (kernelRun0_B.sl.r_1 (F := Ideal) c arg16 harg16 xs0) = xs0 := by
  delta kernelRun0_B.sl.r_1
  exact whole_at arg16 harg16 xs0 ![0, 0] z2 _

/-- The guided block. -/
theorem blk_B (hc0 : ¬cond0_0 i) (x0 : Vec Ideal S6 .f32) (x1 : Vec Ideal S6 .f32) (x2 : Vec Ideal S6 .f32) (x3 : Vec Ideal S2x1x512x1536 .bf16) (x4 : Vec Ideal S12x1536 .f32) (x5 : Vec Ideal S12x1536 .f32) (x6 : Vec Ideal S1536x64 .fp8e4m3) (x7 : Vec Ideal S1x64 .f32) (x8 : Vec Ideal S1x64 .f32) (x9 : Vec Ideal S1x16x16x128 .f32) (xs0 : Vec Ideal S64x1536 .fp8e4m3) (x12 : Vec Ideal S2x1x512x1536 .fp8e4m3) (x13 : Vec Ideal S12x3072 .f32) (xs1 : Vec Ideal S512x128 .f32) (xs2 : Vec Ideal S16x16x128 .f32) : kernelRun0_B.sl.r_10 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x7 x8 xs0 x12 xs1 = blk i x0 x3 x4 x5 xs0 x7 x8 := by
  obtain ⟨a1, a2, a3, a4⟩ := loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 _ _ (k0_off1_inb i 0) rfl rfl (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (View.readAt (Elt Ideal) arg7.view (Rect.unit (s := S12x1536) (k0_off1 i 0#32) S1x1536.size _).toLoadRect (harg7.unread x5)) (View.readAt (Elt Ideal) arg6.view (Rect.unit (s := S12x1536) (k0_off1 i 0#32) S1x1536.size _).toLoadRect (harg6.unread x4)) (harg5.unread x3) (Scf.trips k0_t1_loop.lb k0_t1_loop.ub k0_t1_loop.st)) rfl
  obtain ⟨b1, b2, b3, b4⟩ := loop2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 (BitVec.ofNat 32 (i 0).val) (kernelRun0_B.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_B.sl.r_1 (F := Ideal) c arg16 harg16 xs0) _ _ (k0_off1_inb i 1) rfl rfl (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (kernelRun0_B.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_B.sl.r_1 (F := Ideal) c arg16 harg16 xs0) (View.readAt (Elt Ideal) arg7.view (Rect.unit (s := S12x1536) (k0_off1 i 6#32) S1x1536.size _).toLoadRect (harg7.unread x5)) (View.readAt (Elt Ideal) arg6.view (Rect.unit (s := S12x1536) (k0_off1 i 6#32) S1x1536.size _).toLoadRect (harg6.unread x4)) (harg5.unread x3) (Scf.trips k0_t2_loop.lb k0_t2_loop.ub k0_t2_loop.st)) rfl
  have hcc := both _ _ _ b1 a1 b3 a3
  have s0 := strip0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2
  have s1 := strip1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2
  have hw := wt_B c arg16 harg16 xs0
  delta kernelRun0_B.sl.r_10 kernelRun0_B.sl.r_2 kernelRun0_B.sl.r kernelRun0_B.sl.r_7 kernelRun0_B.sl.v32 kernelRun0_B.sl.v74
  have e9 := whole_at arg9 harg9 x7 ![0, 0] z2 inb_S1x64_S1x64_0_0
  have e10 := whole_at arg10 harg10 x8 ![0, 0] z2 inb_S1x64_S1x64_0_0
  have eg := scalar_at arg2 harg2 x0 (bi i) (k0_off7 i) (off7_eq i) (k0_off7_inb i) (by decide)
  refine (guided x3 (mrow i x5) (mrow i x4) _ _ _ _ _ _ _ _ _ _ _ s0 s1
    (fun j k => codes x3 (mrow i x5) (mrow i x4) arg14.view _ 0 _ a1 a3 _ rfl _ j k)
    (fun j k => codes x3 (mrow i x5) (mrow i x4) arg14.view _ 1 _ hcc.1 (fun r k => hcc.2 _) _ rfl _ j k)).trans ?_
  exact gui_congr x3 _ _ hw e9 e10 eg

/-- The image block. -/
theorem img_B (hc0 : ¬cond0_0 i) (x0 : Vec Ideal S6 .f32) (x1 : Vec Ideal S6 .f32) (x2 : Vec Ideal S6 .f32) (x3 : Vec Ideal S2x1x512x1536 .bf16) (x4 : Vec Ideal S12x1536 .f32) (x5 : Vec Ideal S12x1536 .f32) (x6 : Vec Ideal S1536x64 .fp8e4m3) (x7 : Vec Ideal S1x64 .f32) (x8 : Vec Ideal S1x64 .f32) (x9 : Vec Ideal S1x16x16x128 .f32) (xs0 : Vec Ideal S64x1536 .fp8e4m3) (x12 : Vec Ideal S2x1x512x1536 .fp8e4m3) (x13 : Vec Ideal S12x3072 .f32) (xs1 : Vec Ideal S512x128 .f32) (xs2 : Vec Ideal S16x16x128 .f32) : kernelRun0_B.sl.v673 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x3 x4 x5 x7 x8 xs0 x12 xs1 = Stage.imgF (blk i x0 x3 x4 x5 xs0 x7 x8) := by
  rw [← blk_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2]
  delta kernelRun0_B.sl.v673
  exact img_read arg18.view _ _ (by delta kernelRun0_B.sl.HS2_16; rfl) ![0, 0, 0] z3 _

/-- WHAT THE POINT LEAVES: the latent, the velocity, the codes and the scales. -/
theorem lat_B (hc0 : ¬cond0_0 i) (x0 : Vec Ideal S6 .f32) (x1 : Vec Ideal S6 .f32) (x2 : Vec Ideal S6 .f32) (x3 : Vec Ideal S2x1x512x1536 .bf16) (x4 : Vec Ideal S12x1536 .f32) (x5 : Vec Ideal S12x1536 .f32) (x6 : Vec Ideal S1536x64 .fp8e4m3) (x7 : Vec Ideal S1x64 .f32) (x8 : Vec Ideal S1x64 .f32) (x9 : Vec Ideal S1x16x16x128 .f32) (xs0 : Vec Ideal S64x1536 .fp8e4m3) (x12 : Vec Ideal S2x1x512x1536 .fp8e4m3) (x13 : Vec Ideal S12x3072 .f32) (xs1 : Vec Ideal S512x128 .f32) (xs2 : Vec Ideal S16x16x128 .f32) : Conf (e := .f32) (latG i x0 x1 x2 x3 x4 x5 xs0 x7 x8 x9) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).1 ∧ ∀ y, ∃ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).1, y ∈ p.1.set := by
  refine whole_piece (e := .f32) _ ![0, 0, 0, 0] z4 S1x16x16x128.size rfl inb_S1x16x16x128_S1x16x16x128_0_0_0_0 _ ?_ _ (by delta kernelRun0_B; rfl)
  intro x
  refine (lat_piece _ _ _ x).trans ?_
  rw [congrFun (img_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2) (ix3 (x 1) (x 2) (x 3)), whole_at arg11 harg11 x9 ![0, 0, 0, 0] z4]
  delta kernelRun0_B.sl.r_11
  have et := scalar_at arg4 harg4 x2 (bi i) (k0_off7 i) (off7_eq i) (k0_off7_inb i) (by decide)
  have eu := scalar_at arg3 harg3 x1 (bi i) (k0_off7 i) (off7_eq i) (k0_off7_inb i) (by decide)
  have hd : (k0_pay35 (F := Ideal) (kernelRun0_B.sl.r_8 (F := Ideal) c i arg4 harg4 x2) (kernelRun0_B.sl.r_9 (F := Ideal) c i arg3 harg3 x1) : EReal)
      = x2 (ix1 (bi i)) - x1 (ix1 (bi i)) := congrArg₂ (fun p q : EReal => p - q) et eu
  rw [hd]
  rfl

theorem vel_B (hc0 : ¬cond0_0 i) (x0 : Vec Ideal S6 .f32) (x1 : Vec Ideal S6 .f32) (x2 : Vec Ideal S6 .f32) (x3 : Vec Ideal S2x1x512x1536 .bf16) (x4 : Vec Ideal S12x1536 .f32) (x5 : Vec Ideal S12x1536 .f32) (x6 : Vec Ideal S1536x64 .fp8e4m3) (x7 : Vec Ideal S1x64 .f32) (x8 : Vec Ideal S1x64 .f32) (x9 : Vec Ideal S1x16x16x128 .f32) (xs0 : Vec Ideal S64x1536 .fp8e4m3) (x12 : Vec Ideal S2x1x512x1536 .fp8e4m3) (x13 : Vec Ideal S12x3072 .f32) (xs1 : Vec Ideal S512x128 .f32) (xs2 : Vec Ideal S16x16x128 .f32) : Conf (e := .bf16) (velG i x0 x3 x4 x5 xs0 x7 x8) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).2.1 ∧ ∀ y, ∃ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).2.1, y ∈ p.1.set := by
  refine whole_piece (e := .bf16) _ ![0, 0, 0, 0] z4 ![1, 16, 16, 128] (by decide) inb_S1x16x16x128_S1x16x16x128_0_0_0_0 _ ?_ _ (by delta kernelRun0_B; rfl)
  intro x
  delta kernelRun0_B.sl.r_40
  refine (vel_piece _ x).trans ?_
  exact congrFun (img_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2) (ix3 (x 1) (x 2) (x 3))

theorem cds_B (hc0 : ¬cond0_0 i) (x0 : Vec Ideal S6 .f32) (x1 : Vec Ideal S6 .f32) (x2 : Vec Ideal S6 .f32) (x3 : Vec Ideal S2x1x512x1536 .bf16) (x4 : Vec Ideal S12x1536 .f32) (x5 : Vec Ideal S12x1536 .f32) (x6 : Vec Ideal S1536x64 .fp8e4m3) (x7 : Vec Ideal S1x64 .f32) (x8 : Vec Ideal S1x64 .f32) (x9 : Vec Ideal S1x16x16x128 .f32) (xs0 : Vec Ideal S64x1536 .fp8e4m3) (x12 : Vec Ideal S2x1x512x1536 .fp8e4m3) (x13 : Vec Ideal S12x3072 .f32) (xs1 : Vec Ideal S512x128 .f32) (xs2 : Vec Ideal S16x16x128 .f32) : Conf (e := .fp8e4m3) (cdsG i x3 x4 x5) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).2.2.1 ∧ ∀ y, ∃ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).2.2.1, y ∈ p.1.set := by
  obtain ⟨a1, a2, a3, a4⟩ := loop1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 _ _ (k0_off1_inb i 0) rfl rfl (pb_k0_t1 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (View.readAt (Elt Ideal) arg7.view (Rect.unit (s := S12x1536) (k0_off1 i 0#32) S1x1536.size _).toLoadRect (harg7.unread x5)) (View.readAt (Elt Ideal) arg6.view (Rect.unit (s := S12x1536) (k0_off1 i 0#32) S1x1536.size _).toLoadRect (harg6.unread x4)) (harg5.unread x3) (Scf.trips k0_t1_loop.lb k0_t1_loop.ub k0_t1_loop.st)) rfl
  obtain ⟨b1, b2, b3, b4⟩ := loop2 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 (BitVec.ofNat 32 (i 0).val) (kernelRun0_B.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_B.sl.r_1 (F := Ideal) c arg16 harg16 xs0) _ _ (k0_off1_inb i 1) rfl rfl (pb_k0_t2 (F := Ideal) Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 (BitVec.ofNat 32 (i 0).val) (kernelRun0_B.sl.r (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_B.sl.r_1 (F := Ideal) c arg16 harg16 xs0) (View.readAt (Elt Ideal) arg7.view (Rect.unit (s := S12x1536) (k0_off1 i 6#32) S1x1536.size _).toLoadRect (harg7.unread x5)) (View.readAt (Elt Ideal) arg6.view (Rect.unit (s := S12x1536) (k0_off1 i 6#32) S1x1536.size _).toLoadRect (harg6.unread x4)) (harg5.unread x3) (Scf.trips k0_t2_loop.lb k0_t2_loop.ub k0_t2_loop.st)) rfl
  have hcc := both _ _ _ b1 a1 b3 a3
  delta kernelRun0_B
  exact hcc

theorem xs_B (hc0 : ¬cond0_0 i) (x0 : Vec Ideal S6 .f32) (x1 : Vec Ideal S6 .f32) (x2 : Vec Ideal S6 .f32) (x3 : Vec Ideal S2x1x512x1536 .bf16) (x4 : Vec Ideal S12x1536 .f32) (x5 : Vec Ideal S12x1536 .f32) (x6 : Vec Ideal S1536x64 .fp8e4m3) (x7 : Vec Ideal S1x64 .f32) (x8 : Vec Ideal S1x64 .f32) (x9 : Vec Ideal S1x16x16x128 .f32) (xs0 : Vec Ideal S64x1536 .fp8e4m3) (x12 : Vec Ideal S2x1x512x1536 .fp8e4m3) (x13 : Vec Ideal S12x3072 .f32) (xs1 : Vec Ideal S512x128 .f32) (xs2 : Vec Ideal S16x16x128 .f32) : Conf (e := .f32) (xsG i x3 x4 x5) (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).2.2.2.1 ∧ ∀ y, (∃ p ∈ (kernelRun0_B (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2).2.2.2.1, y ∈ p.1.set) ↔ InStrip i y := by
  refine strips i (xsG i x3 x4 x5) (scl x3 (mrow i x5) (mrow i x4)) (xsG_at i x3 x4 x5)
    (k0_pay33 (F := Ideal) (kernelRun0_B.sl.r_3 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs0 xs1) (kernelRun0_B.sl.r_4 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs0 xs1) (kernelRun0_B.sl.r_5 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs0 xs1) (kernelRun0_B.sl.r_6 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs0 xs1)) (k0_pay24 (F := Ideal) (kernelRun0_B.sl.v13 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_B.sl.v16 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_B.sl.v19 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1) (kernelRun0_B.sl.v22 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x3 x4 x5 xs1))
    (strip1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2) (strip0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 hc0 x0 x1 x2 x3 x4 x5 x6 x7 x8 x9 xs0 x12 x13 xs1 xs2) (k0_off4_inb i 1) (k0_off4_inb i 0) _ (by delta kernelRun0_B; rfl)

end B

end

end Cert.RunVal

end
-- ==== Proof.KVal.lean ====
/- The kernel's launch over the reals: it ends, its arguments unchanged, every semaphore at zero, and its results hold
the blocks its grid points compute. -/
module

public import proofs.«01_k».proof.Proof.RunVal
public import Idealize.ShloMosaic.Lib.Claim
public import Idealize.ShloMosaic.Lib.Pipeline.DatRel
public import Idealize.ShloMosaic.Lib.Pipeline.ArrRel

@[expose] public section

set_option maxRecDepth 16384

noncomputable section

namespace Cert.KVal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Core

local notation "𝕄" => MT nD τ sig Unit (Elt Ideal) ℕ (UR sig nD τ) ℕ

variable (m : (ℓ : Loc nD τ sig) → Buf (Elt Ideal) ℓ) (ρ : Dev nD → PrngReg)

/-- The first grid point. -/
def t0 : Fin cfg0.N := ⟨0, by decide⟩

theorem idx6 : ∀ t : Fin cfg0.N, win0_6.index t (0 : Fin 2) = 0 ∧ win0_6.index t (1 : Fin 2) = 0 :=
  (by decide +kernel : ∀ t : Fin grid0.N, _)

theorem emb6 (t : Fin cfg0.N) (j : S1536x64.Idx) : ((cfg0.win 6).blk t).view.emb j = j := by
  obtain ⟨e0, e1⟩ := idx6 t
  funext a; apply Fin.ext
  match a with
  | ⟨0, _⟩ => show win0_6.index t (0 : Fin 2) * 1536 + 1 * (j 0).val = (j 0).val; omega
  | ⟨1, _⟩ => show win0_6.index t (1 : Fin 2) * 64 + 1 * (j 1).val = (j 1).val; omega

/-- The weights' block is the weights at every point. -/
theorem iblk6_eq (c : Dev nD) (t : Fin cfg0.N) : iblk m c 6 t = V m c main_arg3 := by
  funext j; show V m c main_arg3 (((cfg0.win 6).blk t).view.emb j) = V m c main_arg3 j; rw [emb6]

/-- The transposed weights that the first point leaves for the others. -/
def wS (c : Dev nD) : Vec Ideal S64x1536 .fp8e4m3 := wtG (V m c main_arg3)

theorem wS_eq (c : Dev nD) (t : Fin cfg0.N) : wtG (iblk m c 6 t) = wS m c := by rw [iblk6_eq]; rfl

/-- What each point leaves in the blocks of the first three results, and the scales it computes. -/
def lat (c : Dev nD) (t : Fin cfg0.N) : Vec Ideal S1x16x16x128 .f32 :=
  latG (grid0.coords t) (iblk m c 0 t) (iblk m c 1 t) (iblk m c 2 t) (iblk m c 3 t) (iblk m c 4 t) (iblk m c 5 t) (wS m c) (iblk m c 7 t) (iblk m c 8 t) (iblk m c 9 t)
def vel (c : Dev nD) (t : Fin cfg0.N) : Vec Ideal S1x16x16x128 .bf16 :=
  velG (grid0.coords t) (iblk m c 0 t) (iblk m c 3 t) (iblk m c 4 t) (iblk m c 5 t) (wS m c) (iblk m c 7 t) (iblk m c 8 t)
def cds (c : Dev nD) (t : Fin cfg0.N) : Vec Ideal S2x1x512x1536 .fp8e4m3 :=
  cdsG (grid0.coords t) (iblk m c 3 t) (iblk m c 4 t) (iblk m c 5 t)
def scs (c : Dev nD) (t : Fin cfg0.N) : Vec Ideal S12x3072 .f32 :=
  xsG (grid0.coords t) (iblk m c 3 t) (iblk m c 4 t) (iblk m c 5 t)

/-- What is known of the scales' array after a point: the strips of that point and of the points before it. -/
def Strips (c : Dev nD) (t : Fin cfg0.N) (X : Vec Ideal S12x3072 .f32) : Prop :=
  ∀ u : Fin cfg0.N, u.val ≤ t.val → ∀ y, InStrip (grid0.coords u) y → X y = scs m c u y

theorem coords_inj : ∀ u t : Fin cfg0.N, (grid0.coords u 0).val = (grid0.coords t 0).val → (grid0.coords u 1).val = (grid0.coords t 1).val → u = t :=
  (by decide +kernel : ∀ u t : Fin grid0.N, (grid0.coords u 0).val = (grid0.coords t 0).val → (grid0.coords u 1).val = (grid0.coords t 1).val → u = t)

/-- A point's stores into the scales' array add its strip. -/
theorem strips_step (c : Dev nD) (t : Fin cfg0.N) (a : Memref sig .tc .vmem S12x3072 .f32) (ha : a.IsWhole) (x : Vec Ideal S12x3072 .f32)
    (L : List (View.Piece (Elt Ideal) S12x3072 .f32)) (hL : Conf (e := .f32) (scs m c t) L ∧ ∀ y, (∃ p ∈ L, y ∈ p.1.set) ↔ InStrip (grid0.coords t) y)
    (hx : ∀ u : Fin cfg0.N, u.val < t.val → ∀ y, InStrip (grid0.coords u) y → x y = scs m c u y) :
    Strips m c t (a.view.read (Elt Ideal) (a.view.writes (Elt Ideal) (ha.unread x) L)) := by
  intro u hu y hy
  by_cases ht : InStrip (grid0.coords t) y
  · obtain rfl : u = t := coords_inj u t (hy.1.symm.trans ht.1) (hy.2.symm.trans ht.2)
    exact read_conf a.view _ _ L hL.1 y ((hL.2 y).mpr ht)
  · have hlt : u.val < t.val := lt_of_le_of_ne hu fun h => ht (by rw [← Fin.ext h]; exact hy)
    rw [View.read_writes_apply_of_forall_not_mem _ _ y L fun p hp h => ht ((hL.2 y).mp ⟨p, hp, h⟩), ha.read_unread]
    exact hx u hlt y hy

/-- The region invariant: before the first point every scratch at anything; afterwards the transposed weights in the
first scratch. -/
def PhiS (c : Dev nD) : ℕ → sProp 𝕄
  | 0 => Pipeline.ΦA spec0 c
  | _ + 1 => iprop(iprop(owns (c : Thread nD τ) scM0_0 fullShare (wS m c) ∗ (∃ d, owns (c : Thread nD τ) scM0_1 fullShare d) ∗ (∃ d, owns (c : Thread nD τ) scM0_2 fullShare d)) ∗ (∃ r, prngReg c r))

theorem PhiS_zero (c : Dev nD) (n : ℕ) (hz : n = 0) : PhiS m c n = Pipeline.ΦA spec0 c := by
  subst hz; rfl

theorem PhiS_succ (c : Dev nD) (n : ℕ) :
    PhiS m c (n + 1) = iprop(iprop(owns (c : Thread nD τ) scM0_0 fullShare (wS m c) ∗ (∃ d, owns (c : Thread nD τ) scM0_1 fullShare d) ∗ (∃ d, owns (c : Thread nD τ) scM0_2 fullShare d)) ∗ (∃ r, prngReg c r)) := rfl

theorem PhiS_pos (c : Dev nD) (n : ℕ) (hz : n ≠ 0) :
    PhiS m c n = iprop(iprop(owns (c : Thread nD τ) scM0_0 fullShare (wS m c) ∗ (∃ d, owns (c : Thread nD τ) scM0_1 fullShare d) ∗ (∃ d, owns (c : Thread nD τ) scM0_2 fullShare d)) ∗ (∃ r, prngReg c r)) := by
  cases n with
  | zero => exact absurd rfl hz
  | succ n => rfl

/-- The one window that is held to a predicate: the scales' array. -/
def fgt0 : Fin 14 → Bool := fun w => w.val == 13

/-- The proof data of the pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => lat m c t
    | ⟨11, _⟩ => vel m c t
    | ⟨12, _⟩ => cds m c t
    | ⟨13, h⟩ => Pipeline.Dat.unnamed (cfg := cfg0) ⟨13, h⟩ t
  Φ t := PhiS m c t.val
  q _ := fullShare
  owed _ := 0

/-- The predicate on what a point leaves in a window: for the scales, their strips. -/
def Rl (c : Dev nD) : (w : Fin cfg0.W) → Fin cfg0.N → ((cfg0.win w).block.Idx → Elt Ideal (cfg0.win w).elt) → Prop
  | ⟨13, _⟩, t, X => Strips m c t X
  | _, _, _ => True

/-- The data the launch is proved over. -/
def rdat (c : Dev nD) : Pipeline.RDat τ (Elt Ideal) Unit ℕ (UR sig nD τ) ℕ cfg0 c := (dats m 0 c).toRRel fgt0 (Rl m c)

theorem A_eq (c : Dev nD) (w : Fin cfg0.W) : (dats m 0 c).A w = V m c (Pipeline.arrRef spec0 w) := by
  dsimp only [dats]

theorem PhiS_castSucc (c : Dev nD) (t : Fin cfg0.N) : (dats m 0 c).Φ t.castSucc = PhiS m c t.val := by
  dsimp only [dats]; rfl

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = lat m c t := by dsimp only [dats]
theorem after0_11 (c : Dev nD) (t : Fin cfg0.N) : (dats m 0 c).after 11 t = vel m c t := by dsimp only [dats]
theorem after0_12 (c : Dev nD) (t : Fin cfg0.N) : (dats m 0 c).after 12 t = cds m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-- What a point finds in the scales' array: the strips of the points before it. -/
theorem found (c : Dev nD) (t : Fin cfg0.N) (X : Vec Ideal S12x3072 .f32) (h : (rdat m c).Finds 13 t X) :
    ∀ u : Fin cfg0.N, u.val < t.val → ∀ y, InStrip (grid0.coords u) y → X y = scs m c u y := by
  intro u hu y hy
  have hN : t.val < 36 := lt_of_lt_of_eq t.isLt (show cfg0.N = 36 from N_0)
  have hz : t.val ≠ 0 := by omega
  rcases ((rdat m c).finds_of_pos (w := 13) (t := t) rfl hz X).mp h with hf | hl
  · exact absurd ((flush0_13 _).mp hf) (by show ¬ (t.val - 1) % 36 = 35; omega)
  · have hs : Strips m c _ X := (dats m 0 c).toRRel_leaves (fgt := fgt0) (Rl := Rl m c) (w := 13) rfl hl
    exact hs u (by show u.val ≤ t.val - 1; omega) y hy

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ X, ⌜(rdat m c).Finds 13 t X⌝ ∗ owns (c : Thread nD τ) (ms0_13 t) fullShare X))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ (∃ X, ⌜Strips m c t X⌝ ∗ owns (c : Thread nD τ) (ms0_13 t) fullShare X))

set_option maxHeartbeats 12800000 in
/-- The body at any point: the first leaves the transposed weights, the others use them. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl,
    after0_0, after0_1, after0_2, after0_3, after0_4, after0_5, after0_6, after0_7, after0_8, after0_9, after0_10, after0_11, after0_12]
  rw [show (dats m 0 c).Φ t.succ = PhiS m c (t.val + 1) from rfl, PhiS_succ]
  have hN : t.val < 36 := lt_of_lt_of_eq t.isLt (show cfg0.N = 36 from N_0)
  by_cases hz : t.val = 0
  · have hc : cond0_0 (grid0.coords t) := (hcond0_0 t).mpr (by omega)
    rw [PhiS_castSucc m c t, PhiS_zero m c _ hz, PhiA0_eq]
    iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%e12, H12⟩, ⟨%X13, %hX, H13⟩⟩
    generalize (dats m 0 c).before 12 t e12 = d12
    have q10 : Conf (e := .f32) (lat m c t) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) s0 d12 X13 s1 s2).1 ∧ ∀ y, ∃ p ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) s0 d12 X13 s1 s2).1, y ∈ p.1.set := by
      unfold lat; rw [← wS_eq m c t]; exact RunVal.lat_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) s0 d12 X13 s1 s2
    have q11 : Conf (e := .bf16) (vel m c t) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) s0 d12 X13 s1 s2).2.1 ∧ ∀ y, ∃ p ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) s0 d12 X13 s1 s2).2.1, y ∈ p.1.set := by
      unfold vel; rw [← wS_eq m c t]; exact RunVal.vel_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) s0 d12 X13 s1 s2
    have q12 : Conf (e := .fp8e4m3) (cds m c t) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) s0 d12 X13 s1 s2).2.2.1 ∧ ∀ y, ∃ p ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) s0 d12 X13 s1 s2).2.2.1, y ∈ p.1.set := by
      exact RunVal.cds_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) s0 d12 X13 s1 s2
    have qS : Conf (e := .fp8e4m3) (wS m c) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) s0 d12 X13 s1 s2).2.2.2.1 ∧ ∀ y, ∃ p ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) s0 d12 X13 s1 s2).2.2.2.1, y ∈ p.1.set := by
      rw [← wS_eq m c t]; exact RunVal.wts_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) s0 d12 X13 s1 s2
    have q13 : Conf (e := .f32) (scs m c t) (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) s0 d12 X13 s1 s2).2.2.2.2.1 ∧ ∀ y, (∃ p ∈ (kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) s0 d12 X13 s1 s2).2.2.2.2.1, y ∈ p.1.set) ↔ InStrip (grid0.coords t) y := by
      exact RunVal.xs_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) s0 d12 X13 s1 s2
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) s0 d12 X13 s1 s2).2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    isplitl [H13]; · iexact H13
    isplitl [HS0]; · iexact HS0
    isplitl [HS1]; · iexact HS1
    isplitl [HS2]; · iexact HS2
    iintro ⟨H0, H1, H2, H3, H4, H5, H6, H7, H8, H9, ⟨%f10, H10⟩, ⟨%f11, H11⟩, H12, H13, ⟨%fs, HS0⟩, HS1, HS2⟩
    isplitl [HS0 HS1 HS2 Hg]
    · isplitl [HS0 HS1 HS2]
      · isplitl [HS0]
        · unfold owns; iexists _; isplitr
          swap; · iexact HS0
          ipureintro; exact funext fun y => read_conf _ _ _ _ qS.1 y (qS.2 y)
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact funext fun y => read_conf _ _ _ _ q10.1 y (q10.2 y)
    isplitl [H11]
    · unfold owns; iexists _; isplitr
      swap; · iexact H11
      ipureintro; exact funext fun y => read_conf _ _ _ _ q11.1 y (q11.2 y)
    isplitl [H12]
    · unfold owns; iexists _; isplitr
      swap; · iexact H12
      ipureintro; exact funext fun y => read_conf _ _ _ _ q12.1 y (q12.2 y)
    iexists _; isplitr
    swap
    · unfold owns; iexists _; isplitr
      swap; · iexact H13
      ipureintro; rfl
    · ipureintro; exact strips_step m c t _ (hs0_13 t) X13 _ q13 (found m c t X13 hX)
  · have hc : ¬cond0_0 (grid0.coords t) := fun h => by have := (hcond0_0 t).mp h; omega
    rw [PhiS_castSucc m c t, PhiS_pos m c _ hz]
    iintro ⟨⟨⟨HS0, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%e12, H12⟩, ⟨%X13, %hX, H13⟩⟩
    generalize (dats m 0 c).before 12 t e12 = d12
    have q10 : Conf (e := .f32) (lat m c t) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (wS m c) d12 X13 s1 s2).1 ∧ ∀ y, ∃ p ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (wS m c) d12 X13 s1 s2).1, y ∈ p.1.set := by
      exact RunVal.lat_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (wS m c) d12 X13 s1 s2
    have q11 : Conf (e := .bf16) (vel m c t) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (wS m c) d12 X13 s1 s2).2.1 ∧ ∀ y, ∃ p ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (wS m c) d12 X13 s1 s2).2.1, y ∈ p.1.set := by
      exact RunVal.vel_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (wS m c) d12 X13 s1 s2
    have q12 : Conf (e := .fp8e4m3) (cds m c t) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (wS m c) d12 X13 s1 s2).2.2.1 ∧ ∀ y, ∃ p ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (wS m c) d12 X13 s1 s2).2.2.1, y ∈ p.1.set := by
      exact RunVal.cds_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (wS m c) d12 X13 s1 s2
    have q13 : Conf (e := .f32) (scs m c t) (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (wS m c) d12 X13 s1 s2).2.2.2.1 ∧ ∀ y, (∃ p ∈ (kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (wS m c) d12 X13 s1 s2).2.2.2.1, y ∈ p.1.set) ↔ InStrip (grid0.coords t) y := by
      exact RunVal.xs_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (wS m c) d12 X13 s1 s2
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) scM0_1 (Memref.isWhole_whole _) scM0_2 (Memref.isWhole_whole _) hc (iblk m c 0 t) (iblk m c 1 t) (iblk m c 2 t) (iblk m c 3 t) (iblk m c 4 t) (iblk m c 5 t) (iblk m c 6 t) (iblk m c 7 t) (iblk m c 8 t) (iblk m c 9 t) (wS m c) d12 X13 s1 s2).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexact H12
    isplitl [H13]; · iexact H13
    isplitl [HS0]; · iexact HS0
    isplitl [HS1]; · iexact HS1
    isplitl [HS2]; · iexact HS2
    iintro ⟨H0, H1, H2, H3, H4, H5, H6, H7, H8, H9, ⟨%f10, H10⟩, ⟨%f11, H11⟩, H12, H13, HS0, HS1, HS2⟩
    isplitl [HS0 HS1 HS2 Hg]
    · isplitl [HS0 HS1 HS2]
      · isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · unfold owns; iexists _; isplitr
      swap; · iexact H10
      ipureintro; exact funext fun y => read_conf _ _ _ _ q10.1 y (q10.2 y)
    isplitl [H11]
    · unfold owns; iexists _; isplitr
      swap; · iexact H11
      ipureintro; exact funext fun y => read_conf _ _ _ _ q11.1 y (q11.2 y)
    isplitl [H12]
    · unfold owns; iexists _; isplitr
      swap; · iexact H12
      ipureintro; exact funext fun y => read_conf _ _ _ _ q12.1 y (q12.2 y)
    iexists _; isplitr
    swap
    · unfold owns; iexists _; isplitr
      swap; · iexact H13
      ipureintro; rfl
    · ipureintro; exact strips_step m c t _ (hs0_13 t) X13 _ q13 (found m c t X13 hX)

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) :
    Pipeline.BodyObligationRel (dats m 0 c) (defs₀ (F := Ideal)) Variants.none () Set.univ fgt0 (Rl m c) := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 from rfl, PhiS_zero m c 0 rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val from rfl, PhiS_pos m c _ ht, PhiA0_eq]
  iintro ⟨⟨HS0, HS1, HS2⟩, Hg⟩
  isplitl [HS0 HS1 HS2]
  · isplitl [HS0]
    · iexists _; iexact HS0
    isplitl [HS1]
    · iexact HS1
    iexact HS2
  iexact Hg

/-- The same after the last point. -/
theorem hout (c : Dev nD) : (dats m 0 c).Φ (Fin.last cfg0.N) ⊢ Pipeline.ΦA spec0 c :=
  Phi_out m c _ (by rw [Fin.val_last]; have : cfg0.N = 36 := N_0; omega)

/-! ## The run and the frame -/

set_option backward.isDefEq.respectTransparency.types false in
/-- The launch: every array as the data name it, every other buffer as the region finds it, every semaphore counter at zero. -/
theorem run_main : θ_run defs (onTc (τ := τ) (main (F := Ideal))) (s₀ m ρ) (fun r => Pipeline.RDat.FramePost (cfgs 0) (rdat m) (V m) r ∧ r.2.sem = fun _ => 0) :=
  Pipeline.RDat.θ_run_frame_track (Q' := _) cfgs (0 : Fin 1) launch0 defs₀ Variants.none (rdat m) m ρ main
    (hbody := fun c => (body_obligation m c).toRRel) (hshare := fun c => (dats m 0 c).share_full fun _ => rfl)
    (howed := fun _ _ => rfl) (V := V m) (hmain := hmain m Variants.none) (hA := A_eq m) (hin := hin m) (hout := hout m)

/-- The arguments end unchanged. -/
theorem kept (r : PUnit × MemSt nD τ sig (Elt Ideal)) (h : Pipeline.RDat.FramePost (cfgs 0) (rdat m) (V m) r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9) :=
  ⟨((h c).2 main_arg0 (Pipeline.mem_restRefs_of main_arg0 (by decide) (by decide))).trans (V_main_arg0 m c),
    (Pipeline.RDat.FramePost.arr_in h c 4 rfl).trans ((A_eq m c 4).trans (V_main_arg1 m c)),
    (Pipeline.RDat.FramePost.arr_in h c 5 rfl).trans ((A_eq m c 5).trans (V_main_arg2 m c)),
    (Pipeline.RDat.FramePost.arr_in h c 6 rfl).trans ((A_eq m c 6).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    (Pipeline.RDat.FramePost.arr_in h c 0 rfl).trans ((A_eq m c 0).trans (V_main_arg6 m c)),
    (Pipeline.RDat.FramePost.arr_in h c 1 rfl).trans ((A_eq m c 1).trans (V_main_arg7 m c)),
    (Pipeline.RDat.FramePost.arr_in h c 2 rfl).trans ((A_eq m c 2).trans (V_main_arg8 m c)),
    (Pipeline.RDat.FramePost.arr_in h c 9 rfl).trans ((A_eq m c 9).trans (V_main_arg9 m c))⟩

/-- The frame. -/
theorem frame : θ_run defs (onTc (τ := τ) (main (F := Ideal))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)) ∧ r.2.sem = fun _ => 0) :=
  (θ_run defs _ _).mono (fun r h => ⟨kept m r h.1, h.2⟩) (run_main m ρ)

end Cert.KVal

end
-- ==== Proof.KArr.lean ====
/- The kernel's result arrays after the launch, as functions of its arguments. -/
module

public import proofs.«01_k».proof.Proof.KVal
public import proofs.«01_k».proof.Proof.Spec
public import Idealize.ShloMosaic.Lib.Pipeline.ValueKit

@[expose] public section

set_option maxRecDepth 16384

noncomputable section

namespace Cert.KArr
open Idealize.ShloMosaic Idealize.ShloMosaic.TcCoe Cert.KernelIdeal Cert.KernelIdeal.Gen Cert.Core Cert.Row Cert.KVal
open scoped BigOperators

variable (m : (ℓ : Loc nD τ sig) → Buf (Elt Ideal) ℓ) (c : Dev nD) (t : Fin cfg0.N)

/-- The arguments. -/
abbrev a0 : Vec Ideal S12x3072x1536 .bf16 := m ((c : Thread nD τ).loc main_arg0)
abbrev a1 : Vec Ideal S12x1536 .f32 := m ((c : Thread nD τ).loc main_arg1)
abbrev a2 : Vec Ideal S12x1536 .f32 := m ((c : Thread nD τ).loc main_arg2)
abbrev a3 : Vec Ideal S1536x64 .fp8e4m3 := m ((c : Thread nD τ).loc main_arg3)
abbrev a4 : Vec Ideal S64 .f32 := m ((c : Thread nD τ).loc main_arg4)
abbrev a5 : Vec Ideal S64 .f32 := m ((c : Thread nD τ).loc main_arg5)
abbrev a6 : Vec Ideal S6 .f32 := m ((c : Thread nD τ).loc main_arg6)
abbrev a7 : Vec Ideal S6 .f32 := m ((c : Thread nD τ).loc main_arg7)
abbrev a8 : Vec Ideal S6 .f32 := m ((c : Thread nD τ).loc main_arg8)
abbrev a9 : Vec Ideal S6x16x96x128 .f32 := m ((c : Thread nD τ).loc main_arg9)

/-! ### Where a point's blocks lie -/

theorem idx1 : ∀ t : Fin cfg0.N, win0_0.index t (0 : Fin 1) = 0 ∧ win0_1.index t (0 : Fin 1) = 0 ∧ win0_2.index t (0 : Fin 1) = 0 :=
  (by decide +kernel : ∀ t : Fin grid0.N, _)
theorem idx2 : ∀ t : Fin cfg0.N, (win0_4.index t (0 : Fin 2) = 0 ∧ win0_4.index t (1 : Fin 2) = 0) ∧ (win0_5.index t (0 : Fin 2) = 0 ∧ win0_5.index t (1 : Fin 2) = 0)
    ∧ (win0_7.index t (0 : Fin 2) = 0 ∧ win0_7.index t (1 : Fin 2) = 0) ∧ (win0_8.index t (0 : Fin 2) = 0 ∧ win0_8.index t (1 : Fin 2) = 0) :=
  (by decide +kernel : ∀ t : Fin grid0.N, _)
theorem idx3 : ∀ t : Fin cfg0.N, win0_3.index t (0 : Fin 4) = 0 ∧ win0_3.index t (1 : Fin 4) = (grid0.coords t 0).val ∧ win0_3.index t (2 : Fin 4) = (grid0.coords t 1).val ∧ win0_3.index t (3 : Fin 4) = 0 :=
  (by decide +kernel : ∀ t : Fin grid0.N, _)
theorem idx9 : ∀ t : Fin cfg0.N, win0_9.index t (0 : Fin 4) = (grid0.coords t 0).val ∧ win0_9.index t (1 : Fin 4) = 0 ∧ win0_9.index t (2 : Fin 4) = (grid0.coords t 1).val ∧ win0_9.index t (3 : Fin 4) = 0 :=
  (by decide +kernel : ∀ t : Fin grid0.N, _)
theorem idx10 : ∀ t : Fin cfg0.N, win0_10.index t (0 : Fin 4) = (grid0.coords t 0).val ∧ win0_10.index t (1 : Fin 4) = 0 ∧ win0_10.index t (2 : Fin 4) = (grid0.coords t 1).val ∧ win0_10.index t (3 : Fin 4) = 0 :=
  (by decide +kernel : ∀ t : Fin grid0.N, _)
theorem idx11 : ∀ t : Fin cfg0.N, win0_11.index t (0 : Fin 4) = (grid0.coords t 0).val ∧ win0_11.index t (1 : Fin 4) = 0 ∧ win0_11.index t (2 : Fin 4) = (grid0.coords t 1).val ∧ win0_11.index t (3 : Fin 4) = 0 :=
  (by decide +kernel : ∀ t : Fin grid0.N, _)
theorem idx12 : ∀ t : Fin cfg0.N, win0_12.index t (0 : Fin 4) = 0 ∧ win0_12.index t (1 : Fin 4) = (grid0.coords t 0).val ∧ win0_12.index t (2 : Fin 4) = (grid0.coords t 1).val ∧ win0_12.index t (3 : Fin 4) = 0 :=
  (by decide +kernel : ∀ t : Fin grid0.N, _)
theorem idx13 : ∀ t : Fin cfg0.N, win0_13.index t (0 : Fin 2) = 0 ∧ win0_13.index t (1 : Fin 2) = 0 :=
  (by decide +kernel : ∀ t : Fin grid0.N, _)

/-- A token of the point's block, and an image row of it. -/
def tk (j : Fin 512) : Fin 3072 := ⟨512 * (grid0.coords t 1).val + j.val, by have : (grid0.coords t 1).val < 6 := (grid0.coords t 1).isLt; omega⟩
def rw' (r : Fin 16) : Fin 96 := ⟨16 * (grid0.coords t 1).val + r.val, by have : (grid0.coords t 1).val < 6 := (grid0.coords t 1).isLt; omega⟩

theorem emb9 (cc r : Fin 16) (l : Fin 128) :
    ((cfg0.win 9).blk t).view.emb (ix4 0 cc r l : S1x16x16x128.Idx) = (ix4 (bi (grid0.coords t)) cc (rw' t r) l : S6x16x96x128.Idx) := by
  obtain ⟨e0, e1, e2, e3⟩ := idx9 t
  funext a; apply Fin.ext
  match a with
  | ⟨0, _⟩ => show win0_9.index t (0 : Fin 4) * 1 + 1 * 0 = (grid0.coords t 0).val; omega
  | ⟨1, _⟩ => show win0_9.index t (1 : Fin 4) * 16 + 1 * cc.val = cc.val; omega
  | ⟨2, _⟩ => show win0_9.index t (2 : Fin 4) * 16 + 1 * r.val = 16 * (grid0.coords t 1).val + r.val; omega
  | ⟨3, _⟩ => show win0_9.index t (3 : Fin 4) * 128 + 1 * l.val = l.val; omega

theorem emb10 (cc r : Fin 16) (l : Fin 128) :
    ((cfg0.win 10).blk t).view.emb (ix4 0 cc r l : S1x16x16x128.Idx) = (ix4 (bi (grid0.coords t)) cc (rw' t r) l : S6x16x96x128.Idx) := by
  obtain ⟨e0, e1, e2, e3⟩ := idx10 t
  funext a; apply Fin.ext
  match a with
  | ⟨0, _⟩ => show win0_10.index t (0 : Fin 4) * 1 + 1 * 0 = (grid0.coords t 0).val; omega
  | ⟨1, _⟩ => show win0_10.index t (1 : Fin 4) * 16 + 1 * cc.val = cc.val; omega
  | ⟨2, _⟩ => show win0_10.index t (2 : Fin 4) * 16 + 1 * r.val = 16 * (grid0.coords t 1).val + r.val; omega
  | ⟨3, _⟩ => show win0_10.index t (3 : Fin 4) * 128 + 1 * l.val = l.val; omega

theorem emb11 (cc r : Fin 16) (l : Fin 128) :
    ((cfg0.win 11).blk t).view.emb (ix4 0 cc r l : S1x16x16x128.Idx) = (ix4 (bi (grid0.coords t)) cc (rw' t r) l : S6x16x96x128.Idx) := by
  obtain ⟨e0, e1, e2, e3⟩ := idx11 t
  funext a; apply Fin.ext
  match a with
  | ⟨0, _⟩ => show win0_11.index t (0 : Fin 4) * 1 + 1 * 0 = (grid0.coords t 0).val; omega
  | ⟨1, _⟩ => show win0_11.index t (1 : Fin 4) * 16 + 1 * cc.val = cc.val; omega
  | ⟨2, _⟩ => show win0_11.index t (2 : Fin 4) * 16 + 1 * r.val = 16 * (grid0.coords t 1).val + r.val; omega
  | ⟨3, _⟩ => show win0_11.index t (3 : Fin 4) * 128 + 1 * l.val = l.val; omega

theorem emb12 (h : Fin 2) (j : Fin 512) (k : Fin 1536) :
    ((cfg0.win 12).blk t).view.emb (ix4 h 0 j k : S2x1x512x1536.Idx) = (ix4 h (bi (grid0.coords t)) (tk t j) k : S2x6x3072x1536.Idx) := by
  obtain ⟨e0, e1, e2, e3⟩ := idx12 t
  funext a; apply Fin.ext
  match a with
  | ⟨0, _⟩ => show win0_12.index t (0 : Fin 4) * 2 + 1 * h.val = h.val; omega
  | ⟨1, _⟩ => show win0_12.index t (1 : Fin 4) * 1 + 1 * 0 = (grid0.coords t 0).val; omega
  | ⟨2, _⟩ => show win0_12.index t (2 : Fin 4) * 512 + 1 * j.val = 512 * (grid0.coords t 1).val + j.val; omega
  | ⟨3, _⟩ => show win0_12.index t (3 : Fin 4) * 1536 + 1 * k.val = k.val; omega

theorem emb3 (h : Fin 2) (j : Fin 512) (k : Fin 1536) :
    ((cfg0.win 3).blk t).view.emb (ix4 h 0 j k : S2x1x512x1536.Idx) = (ix4 h (bi (grid0.coords t)) (tk t j) k : S2x6x3072x1536.Idx) := by
  obtain ⟨e0, e1, e2, e3⟩ := idx3 t
  funext a; apply Fin.ext
  match a with
  | ⟨0, _⟩ => show win0_3.index t (0 : Fin 4) * 2 + 1 * h.val = h.val; omega
  | ⟨1, _⟩ => show win0_3.index t (1 : Fin 4) * 1 + 1 * 0 = (grid0.coords t 0).val; omega
  | ⟨2, _⟩ => show win0_3.index t (2 : Fin 4) * 512 + 1 * j.val = 512 * (grid0.coords t 1).val + j.val; omega
  | ⟨3, _⟩ => show win0_3.index t (3 : Fin 4) * 1536 + 1 * k.val = k.val; omega

/-! ### A point's input blocks -/

theorem v0_at (h : Fin 2) (b : Fin 6) (s : Fin 3072) (k : Fin 1536) :
    (V m c main_v0 (ix4 h b s k : S2x6x3072x1536.Idx) : EReal) = a0 m c (ix3 (hf h b) s k) := by
  entry_read
  pointwise
  rfl

theorem v1_at (o : Fin 64) : (V m c main_v1 (ix2 0 o : S1x64.Idx) : EReal) = a4 m c (ix1 o) := by
  entry_read
  pointwise

theorem v2_at (o : Fin 64) : (V m c main_v2 (ix2 0 o : S1x64.Idx) : EReal) = a5 m c (ix1 o) := by
  entry_read
  pointwise

theorem b0 : iblk m c 0 t = a6 m c := by
  obtain ⟨e0, e1, e2⟩ := idx1 t
  refine Eq.trans (funext fun (j : S6.Idx) => ?_) (V_main_arg6 m c)
  show V m c main_arg6 (((cfg0.win 0).blk t).view.emb j) = V m c main_arg6 j
  refine congrArg (V m c main_arg6) (funext fun a => Fin.ext ?_)
  match a with
  | ⟨0, _⟩ => show win0_0.index t (0 : Fin 1) * 6 + 1 * (j 0).val = (j 0).val; omega

theorem b1 : iblk m c 1 t = a7 m c := by
  obtain ⟨e0, e1, e2⟩ := idx1 t
  refine Eq.trans (funext fun (j : S6.Idx) => ?_) (V_main_arg7 m c)
  show V m c main_arg7 (((cfg0.win 1).blk t).view.emb j) = V m c main_arg7 j
  refine congrArg (V m c main_arg7) (funext fun a => Fin.ext ?_)
  match a with
  | ⟨0, _⟩ => show win0_1.index t (0 : Fin 1) * 6 + 1 * (j 0).val = (j 0).val; omega

theorem b2 : iblk m c 2 t = a8 m c := by
  obtain ⟨e0, e1, e2⟩ := idx1 t
  refine Eq.trans (funext fun (j : S6.Idx) => ?_) (V_main_arg8 m c)
  show V m c main_arg8 (((cfg0.win 2).blk t).view.emb j) = V m c main_arg8 j
  refine congrArg (V m c main_arg8) (funext fun a => Fin.ext ?_)
  match a with
  | ⟨0, _⟩ => show win0_2.index t (0 : Fin 1) * 6 + 1 * (j 0).val = (j 0).val; omega

theorem b3 (h : Fin 2) (j : Fin 512) (k : Fin 1536) :
    (iblk m c 3 t (ix4 h 0 j k : S2x1x512x1536.Idx) : EReal) = xr (a0 m c) (hf h (bi (grid0.coords t))) (tk t j) k := by
  show (V m c main_v0 (((cfg0.win 3).blk t).view.emb (ix4 h 0 j k : S2x1x512x1536.Idx)) : EReal) = _
  rw [emb3, v0_at]; rfl

theorem b4 : iblk m c 4 t = a1 m c := by
  obtain ⟨⟨e0, e1⟩, -, -, -⟩ := idx2 t
  refine Eq.trans (funext fun (j : S12x1536.Idx) => ?_) (V_main_arg1 m c)
  show V m c main_arg1 (((cfg0.win 4).blk t).view.emb j) = V m c main_arg1 j
  refine congrArg (V m c main_arg1) (funext fun a => Fin.ext ?_)
  match a with
  | ⟨0, _⟩ => show win0_4.index t (0 : Fin 2) * 12 + 1 * (j 0).val = (j 0).val; omega
  | ⟨1, _⟩ => show win0_4.index t (1 : Fin 2) * 1536 + 1 * (j 1).val = (j 1).val; omega

theorem b5 : iblk m c 5 t = a2 m c := by
  obtain ⟨-, ⟨e0, e1⟩, -, -⟩ := idx2 t
  refine Eq.trans (funext fun (j : S12x1536.Idx) => ?_) (V_main_arg2 m c)
  show V m c main_arg2 (((cfg0.win 5).blk t).view.emb j) = V m c main_arg2 j
  refine congrArg (V m c main_arg2) (funext fun a => Fin.ext ?_)
  match a with
  | ⟨0, _⟩ => show win0_5.index t (0 : Fin 2) * 12 + 1 * (j 0).val = (j 0).val; omega
  | ⟨1, _⟩ => show win0_5.index t (1 : Fin 2) * 1536 + 1 * (j 1).val = (j 1).val; omega

theorem b7 (o : Fin 64) : (iblk m c 7 t (ix2 0 o : S1x64.Idx) : EReal) = a4 m c (ix1 o) := by
  obtain ⟨-, -, ⟨e0, e1⟩, -⟩ := idx2 t
  refine Eq.trans ?_ (v1_at m c o)
  show V m c main_v1 (((cfg0.win 7).blk t).view.emb (ix2 0 o : S1x64.Idx)) = V m c main_v1 (ix2 0 o : S1x64.Idx)
  refine congrArg (V m c main_v1) (funext fun a => Fin.ext ?_)
  match a with
  | ⟨0, _⟩ => show win0_7.index t (0 : Fin 2) * 1 + 1 * 0 = 0; omega
  | ⟨1, _⟩ => show win0_7.index t (1 : Fin 2) * 64 + 1 * o.val = o.val; omega

theorem b8 (o : Fin 64) : (iblk m c 8 t (ix2 0 o : S1x64.Idx) : EReal) = a5 m c (ix1 o) := by
  obtain ⟨-, -, -, ⟨e0, e1⟩⟩ := idx2 t
  refine Eq.trans ?_ (v2_at m c o)
  show V m c main_v2 (((cfg0.win 8).blk t).view.emb (ix2 0 o : S1x64.Idx)) = V m c main_v2 (ix2 0 o : S1x64.Idx)
  refine congrArg (V m c main_v2) (funext fun a => Fin.ext ?_)
  match a with
  | ⟨0, _⟩ => show win0_8.index t (0 : Fin 2) * 1 + 1 * 0 = 0; omega
  | ⟨1, _⟩ => show win0_8.index t (1 : Fin 2) * 64 + 1 * o.val = o.val; omega

theorem b9 (cc r : Fin 16) (l : Fin 128) :
    (iblk m c 9 t (ix4 0 cc r l : S1x16x16x128.Idx) : EReal) = a9 m c (ix4 (bi (grid0.coords t)) cc (rw' t r) l) := by
  show (V m c main_arg9 (((cfg0.win 9).blk t).view.emb (ix4 0 cc r l : S1x16x16x128.Idx)) : EReal) = _
  rw [emb9, V_main_arg9]

/-! ### A point's output blocks -/

theorem hlo : ∀ b : Fin 6, hf 0 b = lo b := fun b => Fin.ext (by show 0 * 6 + b.val = b.val; omega)
theorem hhi : ∀ b : Fin 6, hf 1 b = hi b := fun b => Fin.ext (by show 1 * 6 + b.val = b.val + 6; omega)

theorem scl_eq (h : Fin 2) (j : Fin 512) :
    scl (iblk m c 3 t) (mrow (grid0.coords t) (iblk m c 5 t)) (mrow (grid0.coords t) (iblk m c 4 t)) h j
      = sXs kscale (a0 m c) (a1 m c) (a2 m c) (hf h (bi (grid0.coords t))) (tk t j) := by
  rw [b4, b5]
  unfold scl sXs
  rw [show (fun k => (iblk m c 3 t (ix4 h 0 j k : S2x1x512x1536.Idx) : EReal)) = xr (a0 m c) (hf h (bi (grid0.coords t))) (tk t j) from funext (b3 m c t h j)]
  rfl

theorem prd_eq (h : Fin 2) (o : Fin 64) (j : Fin 512) :
    prd (iblk m c 3 t) (mrow (grid0.coords t) (iblk m c 5 t)) (mrow (grid0.coords t) (iblk m c 4 t)) (wS m c) (iblk m c 7 t) (iblk m c 8 t) h o j
      = sY kscale kinv (a0 m c) (a1 m c) (a2 m c) (a3 m c) (a4 m c) (a5 m c) (hf h (bi (grid0.coords t))) (tk t j) o := by
  rw [b4, b5]
  unfold prd sY
  rw [show (fun k => (iblk m c 3 t (ix4 h 0 j k : S2x1x512x1536.Idx) : EReal)) = xr (a0 m c) (hf h (bi (grid0.coords t))) (tk t j) from funext (b3 m c t h j), b7, b8,
    show (fun k => (wS m c (ix2 o k) : EReal)) = wc (a3 m c) o from funext fun k => by unfold wS; rw [V_main_arg3]; rfl]
  rfl

theorem vel_eq (cc r : Fin 16) (l : Fin 128) :
    (vel m c t (ix4 0 cc r l) : EReal)
      = sImg kscale kinv (a0 m c) (a1 m c) (a2 m c) (a3 m c) (a4 m c) (a5 m c) (a6 m c) (bi (grid0.coords t)) cc (rw' t r) l := by
  have e1 : tk t (⟨r.val / 2 * 64 + l.val / 2, by omega⟩ : Fin 512) = tok (rw' t r) l :=
    Fin.ext (by show 512 * (grid0.coords t 1).val + (r.val / 2 * 64 + l.val / 2) = (16 * (grid0.coords t 1).val + r.val) / 2 * 64 + l.val / 2; omega)
  have e2 : (⟨(r.val % 2 * 2 + l.val % 2) * 16 + cc.val, by omega⟩ : Fin 64) = feat cc (rw' t r) l :=
    Fin.ext (by show (r.val % 2 * 2 + l.val % 2) * 16 + cc.val = ((16 * (grid0.coords t 1).val + r.val) % 2 * 2 + l.val % 2) * 16 + cc.val; omega)
  unfold sImg sV
  rw [← e1, ← e2, ← hlo, ← hhi, ← prd_eq m c t 0, ← prd_eq m c t 1, ← b0 m c t]
  rfl

theorem lat_eq (cc r : Fin 16) (l : Fin 128) :
    (lat m c t (ix4 0 cc r l) : EReal)
      = sLat kscale kinv (a0 m c) (a1 m c) (a2 m c) (a3 m c) (a4 m c) (a5 m c) (a6 m c) (a7 m c) (a8 m c) (a9 m c) (bi (grid0.coords t)) cc (rw' t r) l := by
  unfold sLat
  rw [← vel_eq]
  unfold lat latG
  rw [b9, b1, b2]
  rfl

theorem cds_eq (h : Fin 2) (j : Fin 512) (k : Fin 1536) :
    (cds m c t (ix4 h 0 j k) : EReal) = sCd kinv (a0 m c) (a1 m c) (a2 m c) (hf h (bi (grid0.coords t))) (tk t j) k := by
  unfold cds cdsG Loop.codesG sCd
  rw [b4, b5]
  show crow kinv (fun k => iblk m c 3 t (ix4 h 0 j k : S2x1x512x1536.Idx)) _ _ k = _
  rw [show (fun k => (iblk m c 3 t (ix4 h 0 j k : S2x1x512x1536.Idx) : EReal)) = xr (a0 m c) (hf h (bi (grid0.coords t))) (tk t j) from funext (b3 m c t h j)]
  rfl

/-! ### The arrays after the launch -/

section
variable (S I : EReal → EReal)
variable (a0 : (⟨3, ![12, 3072, 1536]⟩ : Shape).Idx → EReal) (a1 a2 : (⟨2, ![12, 1536]⟩ : Shape).Idx → EReal)
variable (a3 : (⟨2, ![1536, 64]⟩ : Shape).Idx → EReal) (a4 a5 : (⟨1, ![64]⟩ : Shape).Idx → EReal)
variable (a6 a7 a8 : (⟨1, ![6]⟩ : Shape).Idx → EReal) (a9 : (⟨4, ![6, 16, 96, 128]⟩ : Shape).Idx → EReal)
/-- The four results as arrays. -/
def R10 (j : S6x16x96x128.Idx) : EReal := sLat S I a0 a1 a2 a3 a4 a5 a6 a7 a8 a9 (j 0) (j 1) (j 2) (j 3)
def R11 (j : S6x16x96x128.Idx) : EReal := sImg S I a0 a1 a2 a3 a4 a5 a6 (j 0) (j 1) (j 2) (j 3)
def R12 (j : S2x6x3072x1536.Idx) : EReal := sCd I a0 a1 a2 (hf (j 0) (j 1)) (j 2) (j 3)
def R13 (j : S12x3072.Idx) : EReal := sXs S a0 a1 a2 (j 0) (j 1)
end

theorem arr10 : (dats m 0 c).arrAt 10 cfg0.N
    = R10 kscale kinv (a0 m c) (a1 m c) (a2 m c) (a3 m c) (a4 m c) (a5 m c) (a6 m c) (a7 m c) (a8 m c) (a9 m c) := by
  refine (dats m 0 c).arrAt_eq_of_covers 10 _ (by decide +kernel) fun t hf (y : S1x16x16x128.Idx) => ?_
  obtain ⟨z, cc, r, l, rfl⟩ : ∃ (z : Fin 1) (cc r : Fin 16) (l : Fin 128), y = ix4 z cc r l := ⟨y 0, y 1, y 2, y 3, eq_ix4 y⟩
  obtain rfl : z = 0 := Subsingleton.elim _ _
  rw [emb10]
  refine Eq.trans ?_ (lat_eq m c t cc r l)
  blk_simp
  rw [after0_10]

theorem arr11 : (dats m 0 c).arrAt 11 cfg0.N
    = R11 kscale kinv (a0 m c) (a1 m c) (a2 m c) (a3 m c) (a4 m c) (a5 m c) (a6 m c) := by
  refine (dats m 0 c).arrAt_eq_of_covers 11 _ (by decide +kernel) fun t hf (y : S1x16x16x128.Idx) => ?_
  obtain ⟨z, cc, r, l, rfl⟩ : ∃ (z : Fin 1) (cc r : Fin 16) (l : Fin 128), y = ix4 z cc r l := ⟨y 0, y 1, y 2, y 3, eq_ix4 y⟩
  obtain rfl : z = 0 := Subsingleton.elim _ _
  rw [emb11]
  refine Eq.trans ?_ (vel_eq m c t cc r l)
  blk_simp
  rw [after0_11]

theorem arr12 : (dats m 0 c).arrAt 12 cfg0.N = R12 kinv (a0 m c) (a1 m c) (a2 m c) := by
  refine (dats m 0 c).arrAt_eq_of_covers 12 _ (by decide +kernel) fun t hf (y : S2x1x512x1536.Idx) => ?_
  obtain ⟨h, z, j, k, rfl⟩ : ∃ (h : Fin 2) (z : Fin 1) (j : Fin 512) (k : Fin 1536), y = ix4 h z j k := ⟨y 0, y 1, y 2, y 3, eq_ix4 y⟩
  obtain rfl : z = 0 := Subsingleton.elim _ _
  rw [emb12]
  refine Eq.trans ?_ (cds_eq m c t h j k)
  blk_simp
  rw [after0_12]

theorem every : ∀ a b : Fin 6, ∃ t : Fin cfg0.N, (grid0.coords t 0).val = a.val ∧ (grid0.coords t 1).val = b.val :=
  (by decide +kernel : ∀ a b : Fin 6, ∃ t : Fin grid0.N, (grid0.coords t 0).val = a.val ∧ (grid0.coords t 1).val = b.val)

/-- The scales, once every point has run. -/
theorem strips_all (u : Fin cfg0.N) (hu : u.val = 35) (X : Vec Ideal S12x3072 .f32) (h : Strips m c u X) :
    X = R13 kscale (a0 m c) (a1 m c) (a2 m c) := by
  funext (y : S12x3072.Idx)
  have hy0 : (y 0).val < 12 := (y 0).isLt
  have hy1 : (y 1).val < 3072 := (y 1).isLt
  obtain ⟨t, h0, h1⟩ := every ⟨(y 0).val % 6, by omega⟩ ⟨(y 1).val / 512, by omega⟩
  have h0 : (grid0.coords t 0).val = (y 0).val % 6 := h0
  have h1 : (grid0.coords t 1).val = (y 1).val / 512 := h1
  have hN : t.val < 36 := lt_of_lt_of_eq t.isLt (show cfg0.N = 36 from N_0)
  rw [h t (by omega) y ⟨h0.symm, h1.symm⟩]
  refine (xsG_at (grid0.coords t) _ _ _ ⟨(y 0).val / 6, by omega⟩ ⟨(y 1).val % 512, by omega⟩ y ?_ ?_).trans ?_
  · show (y 0).val = (y 0).val / 6 * 6 + (grid0.coords t 0).val; omega
  · show (y 1).val = 512 * (grid0.coords t 1).val + (y 1).val % 512; omega
  rw [scl_eq]
  have e0 : hf (⟨(y 0).val / 6, by omega⟩ : Fin 2) (bi (grid0.coords t)) = y 0 :=
    Fin.ext (by show (y 0).val / 6 * 6 + (grid0.coords t 0).val = (y 0).val; omega)
  have e1 : tk t (⟨(y 1).val % 512, by omega⟩ : Fin 512) = y 1 :=
    Fin.ext (by show 512 * (grid0.coords t 1).val + (y 1).val % 512 = (y 1).val; omega)
  rw [e0, e1]
  rfl

/-- The last grid point. -/
def tL : Fin cfg0.N := ⟨35, by decide⟩

section post
variable (r : PUnit × MemSt nD τ sig (Elt Ideal)) (h : Pipeline.RDat.FramePost (cfgs 0) (rdat m) (V m) r)
include h

theorem exact (w : Fin cfg0.W) (hw : fgt0 w = false) :
    r.2.mem ((cfg0.spec w).arr.view.loc (c.tc : Thread nD τ)) = (dats m 0 c).arrAt w cfg0.N :=
  (((dats m 0 c).toR.override_arrAt (by simp only [hw]) _ _).trans ((dats m 0 c).toR_arrAt_iff w _ _)).mp ((h c).1 w)

theorem post10 : r.2.mem ((c.tc : Thread nD τ).loc main_v3_0)
    = R10 kscale kinv (a0 m c) (a1 m c) (a2 m c) (a3 m c) (a4 m c) (a5 m c) (a6 m c) (a7 m c) (a8 m c) (a9 m c) :=
  (exact m c r h 10 rfl).trans (arr10 m c)
theorem post11 : r.2.mem ((c.tc : Thread nD τ).loc main_v3_1)
    = R11 kscale kinv (a0 m c) (a1 m c) (a2 m c) (a3 m c) (a4 m c) (a5 m c) (a6 m c) :=
  (exact m c r h 11 rfl).trans (arr11 m c)
theorem post12 : r.2.mem ((c.tc : Thread nD τ).loc main_v3_2) = R12 kinv (a0 m c) (a1 m c) (a2 m c) :=
  (exact m c r h 12 rfl).trans (arr12 m c)

theorem any (w : Fin cfg0.W) : (rdat m c).ArrAt w cfg0.N (r.2.mem ((cfg0.spec w).arr.view.loc (c.tc : Thread nD τ))) := (h c).1 w

theorem post13 : r.2.mem ((c.tc : Thread nD τ).loc main_v3_3) = R13 kscale (a0 m c) (a1 m c) (a2 m c) := by
  have hA := any m c r h 13
  obtain ⟨X, hX, hG⟩ := hA.emb_eq_of_wholeAt (t₀ := tL) (by decide +kernel)
  have hs : Strips m c tL X := (dats m 0 c).toRRel_leaves (fgt := fgt0) (Rl := Rl m c) (w := 13) rfl hX
  have e := strips_all m c tL rfl X hs
  funext (y : S12x3072.Idx)
  exact (hG y).trans (congrFun e y)
end post

end Cert.KArr

end
-- ==== Proof.RefRun.lean ====
/- The reference's run, read: its one call has one grid point whose blocks are whole arrays, so each result is the body's
value of the arguments. -/
module

public import proofs.«01_k».proof.Proof.Gen.ReferenceIdeal.Frame
public import Idealize.ShloMosaic.Lib.Pipeline.Value

@[expose] public section

noncomputable section

namespace Cert.RefRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- After the frame run, output window 10's array is `(dats m 0 c).arrAt 10 N`. -/
theorem post10 (r : PUnit × MemSt nD τ sig (Elt F)) (h : Pipeline.FramePost cfgs (dats m) 0 (V m) r) (c : Dev nD) :
    r.2.mem ((c : Thread nD τ).loc main_v0_0) = (dats m 0 c).arrAt 10 cfg0.N :=
  (h c).1 10

/-- After the frame run, output window 11's array is `(dats m 0 c).arrAt 11 N`. -/
theorem post11 (r : PUnit × MemSt nD τ sig (Elt F)) (h : Pipeline.FramePost cfgs (dats m) 0 (V m) r) (c : Dev nD) :
    r.2.mem ((c : Thread nD τ).loc main_v0_1) = (dats m 0 c).arrAt 11 cfg0.N :=
  (h c).1 11

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v0_2) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v0_3) = (dats m 0 c).arrAt 13 cfg0.N :=
  (h c).1 13

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- After the frame run, argument `main_arg6` is as launched: input window 6 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))

/-- After the frame run, argument `main_arg7` is as launched: input window 7 stages it and never writes it back. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).1 7).trans (((dats m 0 c).arrAt_in 7 rfl _).trans ((A_eq m c 7).trans (V_main_arg7 m c)))

/-- After the frame run, argument `main_arg8` is as launched: input window 8 stages it and never writes it back. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))

/-- After the frame run, argument `main_arg9` is as launched: input window 9 stages it and never writes it back. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).1 9).trans (((dats m 0 c).arrAt_in 9 rfl _).trans ((A_eq m c 9).trans (V_main_arg9 m c)))

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S12x3072x1536.Idx) : ((cfg0.win 0).blk t).view.emb j = j := by
  obtain ⟨e0, e1, e2⟩ := idx_zero0 t
  funext a; apply Fin.ext
  match a with
  | ⟨0, _⟩ => show win0_0.index t (0 : Fin 3) * 12 + 1 * (j 0).val = (j 0).val; omega
  | ⟨1, _⟩ => show win0_0.index t (1 : Fin 3) * 3072 + 1 * (j 1).val = (j 1).val; omega
  | ⟨2, _⟩ => show win0_0.index t (2 : Fin 3) * 1536 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S12x1536.Idx) : ((cfg0.win 1).blk t).view.emb j = j := by
  obtain ⟨e0, e1⟩ := idx_zero1 t
  funext a; apply Fin.ext
  match a with
  | ⟨0, _⟩ => show win0_1.index t (0 : Fin 2) * 12 + 1 * (j 0).val = (j 0).val; omega
  | ⟨1, _⟩ => show win0_1.index t (1 : Fin 2) * 1536 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S12x1536.Idx) : ((cfg0.win 2).blk t).view.emb j = j := by
  obtain ⟨e0, e1⟩ := idx_zero2 t
  funext a; apply Fin.ext
  match a with
  | ⟨0, _⟩ => show win0_2.index t (0 : Fin 2) * 12 + 1 * (j 0).val = (j 0).val; omega
  | ⟨1, _⟩ => show win0_2.index t (1 : Fin 2) * 1536 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S1536x64.Idx) : ((cfg0.win 3).blk t).view.emb j = j := by
  obtain ⟨e0, e1⟩ := idx_zero3 t
  funext a; apply Fin.ext
  match a with
  | ⟨0, _⟩ => show win0_3.index t (0 : Fin 2) * 1536 + 1 * (j 0).val = (j 0).val; omega
  | ⟨1, _⟩ => show win0_3.index t (1 : Fin 2) * 64 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0] : Fin 1 → Nat) = fun _ => 0 := funext fun a => by fin_cases a <;> rfl

/-- Window 4's block index at the one point is zero on every axis. -/
theorem idx_zero4 : ∀ t : Fin cfg0.N, win0_4.index t (0 : Fin 1) = 0 :=
  (by decide +kernel : ∀ t : Fin grid0.N, _)

/-- An index of window 4's block is the same index of its array. -/
theorem emb4 (t : Fin cfg0.N) (j : S64.Idx) : ((cfg0.win 4).blk t).view.emb j = j := by
  have e0 := idx_zero4 t
  funext a; apply Fin.ext
  match a with
  | ⟨0, _⟩ => show win0_4.index t (0 : Fin 1) * 64 + 1 * (j 0).val = (j 0).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S64.Idx) : ((cfg0.win 5).blk t).view.emb j = j := by
  have e0 := idx_zero5 t
  funext a; apply Fin.ext
  match a with
  | ⟨0, _⟩ => show win0_5.index t (0 : Fin 1) * 64 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0] : Fin 1 → Nat) = fun _ => 0 := funext fun a => by fin_cases a <;> rfl

/-- Window 6's block index at the one point is zero on every axis. -/
theorem idx_zero6 : ∀ t : Fin cfg0.N, win0_6.index t (0 : Fin 1) = 0 :=
  (by decide +kernel : ∀ t : Fin grid0.N, _)

/-- An index of window 6's block is the same index of its array. -/
theorem emb6 (t : Fin cfg0.N) (j : S6.Idx) : ((cfg0.win 6).blk t).view.emb j = j := by
  have e0 := idx_zero6 t
  funext a; apply Fin.ext
  match a with
  | ⟨0, _⟩ => show win0_6.index t (0 : Fin 1) * 6 + 1 * (j 0).val = (j 0).val; omega

/-- Input window 6's block at the point is its array as the region finds it. -/
theorem iblk6_eq (c : Dev nD) (t : Fin cfg0.N) : iblk m c 6 t = V m c main_arg6 := by
  funext j; show V m c main_arg6 (((cfg0.win 6).blk t).view.emb j) = V m c main_arg6 j; rw [emb6]

theorem hz7 : (![0] : Fin 1 → Nat) = fun _ => 0 := funext fun a => by fin_cases a <;> rfl

/-- Window 7's block index at the one point is zero on every axis. -/
theorem idx_zero7 : ∀ t : Fin cfg0.N, win0_7.index t (0 : Fin 1) = 0 :=
  (by decide +kernel : ∀ t : Fin grid0.N, _)

/-- An index of window 7's block is the same index of its array. -/
theorem emb7 (t : Fin cfg0.N) (j : S6.Idx) : ((cfg0.win 7).blk t).view.emb j = j := by
  have e0 := idx_zero7 t
  funext a; apply Fin.ext
  match a with
  | ⟨0, _⟩ => show win0_7.index t (0 : Fin 1) * 6 + 1 * (j 0).val = (j 0).val; omega

/-- Input window 7's block at the point is its array as the region finds it. -/
theorem iblk7_eq (c : Dev nD) (t : Fin cfg0.N) : iblk m c 7 t = V m c main_arg7 := by
  funext j; show V m c main_arg7 (((cfg0.win 7).blk t).view.emb j) = V m c main_arg7 j; rw [emb7]

theorem hz8 : (![0] : Fin 1 → Nat) = fun _ => 0 := funext fun a => by fin_cases a <;> rfl

/-- Window 8's block index at the one point is zero on every axis. -/
theorem idx_zero8 : ∀ t : Fin cfg0.N, win0_8.index t (0 : Fin 1) = 0 :=
  (by decide +kernel : ∀ t : Fin grid0.N, _)

/-- An index of window 8's block is the same index of its array. -/
theorem emb8 (t : Fin cfg0.N) (j : S6.Idx) : ((cfg0.win 8).blk t).view.emb j = j := by
  have e0 := idx_zero8 t
  funext a; apply Fin.ext
  match a with
  | ⟨0, _⟩ => show win0_8.index t (0 : Fin 1) * 6 + 1 * (j 0).val = (j 0).val; omega

/-- Input window 8's block at the point is its array as the region finds it. -/
theorem iblk8_eq (c : Dev nD) (t : Fin cfg0.N) : iblk m c 8 t = V m c main_arg8 := by
  funext j; show V m c main_arg8 (((cfg0.win 8).blk t).view.emb j) = V m c main_arg8 j; rw [emb8]

theorem hz9 : (![0, 0, 0, 0] : Fin 4 → Nat) = fun _ => 0 := funext fun a => by fin_cases a <;> rfl

/-- Window 9's block index at the one point is zero on every axis. -/
theorem idx_zero9 : ∀ t : Fin cfg0.N, win0_9.index t (0 : Fin 4) = 0 ∧ win0_9.index t (1 : Fin 4) = 0 ∧ win0_9.index t (2 : Fin 4) = 0 ∧ win0_9.index t (3 : Fin 4) = 0 :=
  (by decide +kernel : ∀ t : Fin grid0.N, _)

/-- An index of window 9's block is the same index of its array. -/
theorem emb9 (t : Fin cfg0.N) (j : S6x16x96x128.Idx) : ((cfg0.win 9).blk t).view.emb j = j := by
  obtain ⟨e0, e1, e2, e3⟩ := idx_zero9 t
  funext a; apply Fin.ext
  match a with
  | ⟨0, _⟩ => show win0_9.index t (0 : Fin 4) * 6 + 1 * (j 0).val = (j 0).val; omega
  | ⟨1, _⟩ => show win0_9.index t (1 : Fin 4) * 16 + 1 * (j 1).val = (j 1).val; omega
  | ⟨2, _⟩ => show win0_9.index t (2 : Fin 4) * 96 + 1 * (j 2).val = (j 2).val; omega
  | ⟨3, _⟩ => show win0_9.index t (3 : Fin 4) * 128 + 1 * (j 3).val = (j 3).val; omega

/-- Input window 9's block at the point is its array as the region finds it. -/
theorem iblk9_eq (c : Dev nD) (t : Fin cfg0.N) : iblk m c 9 t = V m c main_arg9 := by
  funext j; show V m c main_arg9 (((cfg0.win 9).blk t).view.emb j) = V m c main_arg9 j; rw [emb9]

theorem hz10 : (![0, 0, 0, 0] : Fin 4 → Nat) = fun _ => 0 := funext fun a => by fin_cases a <;> rfl

/-- Window 10's block index at the one point is zero on every axis. -/
theorem idx_zero10 : ∀ t : Fin cfg0.N, win0_10.index t (0 : Fin 4) = 0 ∧ win0_10.index t (1 : Fin 4) = 0 ∧ win0_10.index t (2 : Fin 4) = 0 ∧ win0_10.index t (3 : Fin 4) = 0 :=
  (by decide +kernel : ∀ t : Fin grid0.N, _)

/-- An index of window 10's block is the same index of its array. -/
theorem emb10 (t : Fin cfg0.N) (j : S6x16x96x128.Idx) : ((cfg0.win 10).blk t).view.emb j = j := by
  obtain ⟨e0, e1, e2, e3⟩ := idx_zero10 t
  funext a; apply Fin.ext
  match a with
  | ⟨0, _⟩ => show win0_10.index t (0 : Fin 4) * 6 + 1 * (j 0).val = (j 0).val; omega
  | ⟨1, _⟩ => show win0_10.index t (1 : Fin 4) * 16 + 1 * (j 1).val = (j 1).val; omega
  | ⟨2, _⟩ => show win0_10.index t (2 : Fin 4) * 96 + 1 * (j 2).val = (j 2).val; omega
  | ⟨3, _⟩ => show win0_10.index t (3 : Fin 4) * 128 + 1 * (j 3).val = (j 3).val; omega

theorem hz11 : (![0, 0, 0, 0] : Fin 4 → Nat) = fun _ => 0 := funext fun a => by fin_cases a <;> rfl

/-- Window 11's block index at the one point is zero on every axis. -/
theorem idx_zero11 : ∀ t : Fin cfg0.N, win0_11.index t (0 : Fin 4) = 0 ∧ win0_11.index t (1 : Fin 4) = 0 ∧ win0_11.index t (2 : Fin 4) = 0 ∧ win0_11.index t (3 : Fin 4) = 0 :=
  (by decide +kernel : ∀ t : Fin grid0.N, _)

/-- An index of window 11's block is the same index of its array. -/
theorem emb11 (t : Fin cfg0.N) (j : S6x16x96x128.Idx) : ((cfg0.win 11).blk t).view.emb j = j := by
  obtain ⟨e0, e1, e2, e3⟩ := idx_zero11 t
  funext a; apply Fin.ext
  match a with
  | ⟨0, _⟩ => show win0_11.index t (0 : Fin 4) * 6 + 1 * (j 0).val = (j 0).val; omega
  | ⟨1, _⟩ => show win0_11.index t (1 : Fin 4) * 16 + 1 * (j 1).val = (j 1).val; omega
  | ⟨2, _⟩ => show win0_11.index t (2 : Fin 4) * 96 + 1 * (j 2).val = (j 2).val; omega
  | ⟨3, _⟩ => show win0_11.index t (3 : Fin 4) * 128 + 1 * (j 3).val = (j 3).val; omega

theorem hz12 : (![0, 0, 0, 0] : Fin 4 → Nat) = fun _ => 0 := funext fun a => by fin_cases a <;> rfl

/-- Window 12's block index at the one point is zero on every axis. -/
theorem idx_zero12 : ∀ t : Fin cfg0.N, win0_12.index t (0 : Fin 4) = 0 ∧ win0_12.index t (1 : Fin 4) = 0 ∧ win0_12.index t (2 : Fin 4) = 0 ∧ win0_12.index t (3 : Fin 4) = 0 :=
  (by decide +kernel : ∀ t : Fin grid0.N, _)

/-- An index of window 12's block is the same index of its array. -/
theorem emb12 (t : Fin cfg0.N) (j : S2x6x3072x1536.Idx) : ((cfg0.win 12).blk t).view.emb j = j := by
  obtain ⟨e0, e1, e2, e3⟩ := idx_zero12 t
  funext a; apply Fin.ext
  match a with
  | ⟨0, _⟩ => show win0_12.index t (0 : Fin 4) * 2 + 1 * (j 0).val = (j 0).val; omega
  | ⟨1, _⟩ => show win0_12.index t (1 : Fin 4) * 6 + 1 * (j 1).val = (j 1).val; omega
  | ⟨2, _⟩ => show win0_12.index t (2 : Fin 4) * 3072 + 1 * (j 2).val = (j 2).val; omega
  | ⟨3, _⟩ => show win0_12.index t (3 : Fin 4) * 1536 + 1 * (j 3).val = (j 3).val; omega

theorem hz13 : (![0, 0] : Fin 2 → Nat) = fun _ => 0 := funext fun a => by fin_cases a <;> rfl

/-- Window 13's block index at the one point is zero on every axis. -/
theorem idx_zero13 : ∀ t : Fin cfg0.N, win0_13.index t (0 : Fin 2) = 0 ∧ win0_13.index t (1 : Fin 2) = 0 :=
  (by decide +kernel : ∀ t : Fin grid0.N, _)

/-- An index of window 13's block is the same index of its array. -/
theorem emb13 (t : Fin cfg0.N) (j : S12x3072.Idx) : ((cfg0.win 13).blk t).view.emb j = j := by
  obtain ⟨e0, e1⟩ := idx_zero13 t
  funext a; apply Fin.ext
  match a with
  | ⟨0, _⟩ => show win0_13.index t (0 : Fin 2) * 12 + 1 * (j 0).val = (j 0).val; omega
  | ⟨1, _⟩ => show win0_13.index t (1 : Fin 2) * 3072 + 1 * (j 1).val = (j 1).val; omega

/-! ### Output window 10: the array after the run -/

/-- What the window's array ends holding: `out0_10` applied to the argument arrays in place of the input blocks (a value that the
    frame states apart, `kK_payN a…`, keeps its loads inside its own definition). -/
abbrev G10 (a0 : Vec F S12x3072x1536 .bf16) (a1 : Vec F S12x1536 .f32) (a2 : Vec F S12x1536 .f32) (a3 : Vec F S1536x64 .fp8e4m3) (a4 : Vec F S64 .f32) (a5 : Vec F S64 .f32) (a6 : Vec F S6 .f32) (a7 : Vec F S6 .f32) (a8 : Vec F S6 .f32) (a9 : Vec F S6x16x96x128 .f32) : Vec F S6x16x96x128 .f32 :=
  k0_pay1 (k0_pay15 a0 a1 a2 a3 a4 a5 a6 a7 a8 a9) a9 a8 a7

/-- A load of the whole of a block reads the block, and the one store through the whole rectangle leaves its payload. -/
theorem out10_eq (a0 : Vec F S12x3072x1536 .bf16) (a1 : Vec F S12x1536 .f32) (a2 : Vec F S12x1536 .f32) (a3 : Vec F S1536x64 .fp8e4m3) (a4 : Vec F S64 .f32) (a5 : Vec F S64 .f32) (a6 : Vec F S6 .f32) (a7 : Vec F S6 .f32) (a8 : Vec F S6 .f32) (a9 : Vec F S6x16x96x128 .f32) : out0_10 (F := F) a0 a1 a2 a3 a4 a5 a6 a7 a8 a9 = G10 a0 a1 a2 a3 a4 a5 a6 a7 a8 a9 := by
  unfold out0_10
  rw [View.canon_unit_zero hz10, View.ld_unit_zero (S := S6x16x96x128) hz9 _ a9, View.ld_unit_zero (S := S6) hz8 _ a8, View.ld_unit_zero (S := S6) hz7 _ a7]

/-- Cutting the point's block out of `X` and reading `X` through the block's view give the same. -/
theorem cut10_eq (t : Fin cfg0.N) (X : Vec F S6x16x96x128 .f32) :
    (cfg0.win 10).cut (grid0.coords t) X = ((cfg0.win 10).blk t).view.read (Elt F) X := by
  funext j
  show X j = X (((cfg0.win 10).blk t).view.emb j)
  rw [emb10]

/-- WHAT THE POINT WRITES BACK is its block of `G10` of the argument arrays as the region finds them. -/
theorem flushed10_eq (c : Dev nD) (t : Fin cfg0.N) :
    (dats m 0 c).flushed 10 t = ((cfg0.win 10).blk t).view.read (Elt F) (G10 (V m c main_arg0) (V m c main_arg1) (V m c main_arg2) (V m c main_arg3) (V m c main_arg4) (V m c main_arg5) (V m c main_arg6) (V m c main_arg7) (V m c main_arg8) (V m c main_arg9)) := by
  show (cfg0.win 10).cut (grid0.coords t) ((dats m 0 c).after 10 t) = _
  rw [after0_10, out10_eq, iblk0_eq, iblk1_eq, iblk2_eq, iblk3_eq, iblk4_eq, iblk5_eq, iblk6_eq, iblk7_eq, iblk8_eq, iblk9_eq]
  exact cut10_eq t _

/-- Every index of the array is in the point's block. -/
theorem covered10 (i : S6x16x96x128.Idx) :
    ∃ t : Fin cfg0.N, (cfg0.win 10).flush t = true ∧ i ∈ ((cfg0.win 10).blk t).view.set :=
  ⟨(⟨0, by decide⟩ : Fin cfg0.N), flush0_10 _, by have h := ((cfg0.win 10).blk (⟨0, by decide⟩ : Fin cfg0.N)).view.emb_mem_set i; rwa [emb10] at h⟩

/-- THE ARRAY after the run: `G10` of the argument arrays as launched. -/
theorem final10 (c : Dev nD) : (dats m 0 c).arrAt 10 cfg0.N = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((dats m 0 c).arrAt_eq_of_cover 10 (G10 (V m c main_arg0) (V m c main_arg1) (V m c main_arg2) (V m c main_arg3) (V m c main_arg4) (V m c main_arg5) (V m c main_arg6) (V m c main_arg7) (V m c main_arg8) (V m c main_arg9)) (fun t _ => flushed10_eq m c t) covered10).trans (by rw [V_main_arg0, V_main_arg1, V_main_arg2, V_main_arg3, V_main_arg4, V_main_arg5, V_main_arg6, V_main_arg7, V_main_arg8, V_main_arg9])

/-! ### Output window 11: the array after the run -/

/-- What the window's array ends holding: `out0_11` applied to the argument arrays in place of the input blocks (a value that the
    frame states apart, `kK_payN a…`, keeps its loads inside its own definition). -/
abbrev G11 (a0 : Vec F S12x3072x1536 .bf16) (a1 : Vec F S12x1536 .f32) (a2 : Vec F S12x1536 .f32) (a3 : Vec F S1536x64 .fp8e4m3) (a4 : Vec F S64 .f32) (a5 : Vec F S64 .f32) (a6 : Vec F S6 .f32) (a7 : Vec F S6 .f32) (a8 : Vec F S6 .f32) (a9 : Vec F S6x16x96x128 .f32) : Vec F S6x16x96x128 .bf16 :=
  k0_pay2 (k0_pay15 a0 a1 a2 a3 a4 a5 a6 a7 a8 a9)

/-- The one store through the whole rectangle leaves its payload. -/
theorem out11_eq (a0 : Vec F S12x3072x1536 .bf16) (a1 : Vec F S12x1536 .f32) (a2 : Vec F S12x1536 .f32) (a3 : Vec F S1536x64 .fp8e4m3) (a4 : Vec F S64 .f32) (a5 : Vec F S64 .f32) (a6 : Vec F S6 .f32) (a7 : Vec F S6 .f32) (a8 : Vec F S6 .f32) (a9 : Vec F S6x16x96x128 .f32) : out0_11 (F := F) a0 a1 a2 a3 a4 a5 a6 a7 a8 a9 = G11 a0 a1 a2 a3 a4 a5 a6 a7 a8 a9 := by
  unfold out0_11
  rw [View.canon_unit_zero hz11]

/-- Cutting the point's block out of `X` and reading `X` through the block's view give the same. -/
theorem cut11_eq (t : Fin cfg0.N) (X : Vec F S6x16x96x128 .bf16) :
    (cfg0.win 11).cut (grid0.coords t) X = ((cfg0.win 11).blk t).view.read (Elt F) X := by
  funext j
  show X j = X (((cfg0.win 11).blk t).view.emb j)
  rw [emb11]

/-- WHAT THE POINT WRITES BACK is its block of `G11` of the argument arrays as the region finds them. -/
theorem flushed11_eq (c : Dev nD) (t : Fin cfg0.N) :
    (dats m 0 c).flushed 11 t = ((cfg0.win 11).blk t).view.read (Elt F) (G11 (V m c main_arg0) (V m c main_arg1) (V m c main_arg2) (V m c main_arg3) (V m c main_arg4) (V m c main_arg5) (V m c main_arg6) (V m c main_arg7) (V m c main_arg8) (V m c main_arg9)) := by
  show (cfg0.win 11).cut (grid0.coords t) ((dats m 0 c).after 11 t) = _
  rw [after0_11, out11_eq, iblk0_eq, iblk1_eq, iblk2_eq, iblk3_eq, iblk4_eq, iblk5_eq, iblk6_eq, iblk7_eq, iblk8_eq, iblk9_eq]
  exact cut11_eq t _

/-- Every index of the array is in the point's block. -/
theorem covered11 (i : S6x16x96x128.Idx) :
    ∃ t : Fin cfg0.N, (cfg0.win 11).flush t = true ∧ i ∈ ((cfg0.win 11).blk t).view.set :=
  ⟨(⟨0, by decide⟩ : Fin cfg0.N), flush0_11 _, by have h := ((cfg0.win 11).blk (⟨0, by decide⟩ : Fin cfg0.N)).view.emb_mem_set i; rwa [emb11] at h⟩

/-- THE ARRAY after the run: `G11` of the argument arrays as launched. -/
theorem final11 (c : Dev nD) : (dats m 0 c).arrAt 11 cfg0.N = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((dats m 0 c).arrAt_eq_of_cover 11 (G11 (V m c main_arg0) (V m c main_arg1) (V m c main_arg2) (V m c main_arg3) (V m c main_arg4) (V m c main_arg5) (V m c main_arg6) (V m c main_arg7) (V m c main_arg8) (V m c main_arg9)) (fun t _ => flushed11_eq m c t) covered11).trans (by rw [V_main_arg0, V_main_arg1, V_main_arg2, V_main_arg3, V_main_arg4, V_main_arg5, V_main_arg6, V_main_arg7, V_main_arg8, V_main_arg9])

/-! ### Output window 12: the array after the run -/

/-- What the window's array ends holding: `out0_12` applied to the argument arrays in place of the input blocks (a value that the
    frame states apart, `kK_payN a…`, keeps its loads inside its own definition). -/
abbrev G12 (a0 : Vec F S12x3072x1536 .bf16) (a1 : Vec F S12x1536 .f32) (a2 : Vec F S12x1536 .f32) (a3 : Vec F S1536x64 .fp8e4m3) (a4 : Vec F S64 .f32) (a5 : Vec F S64 .f32) (a6 : Vec F S6 .f32) (a7 : Vec F S6 .f32) (a8 : Vec F S6 .f32) (a9 : Vec F S6x16x96x128 .f32) : Vec F S2x6x3072x1536 .fp8e4m3 :=
  k0_pay3 (k0_pay10 (k0_pay12 a0 a1 a2 a3 a4 a5 a6 a7 a8 a9) (k0_pay13 a0 a1 a2 a3 a4 a5 a6 a7 a8 a9) (k0_pay14 a0 a1 a2 a3 a4 a5 a6 a7 a8 a9))

/-- The one store through the whole rectangle leaves its payload. -/
theorem out12_eq (a0 : Vec F S12x3072x1536 .bf16) (a1 : Vec F S12x1536 .f32) (a2 : Vec F S12x1536 .f32) (a3 : Vec F S1536x64 .fp8e4m3) (a4 : Vec F S64 .f32) (a5 : Vec F S64 .f32) (a6 : Vec F S6 .f32) (a7 : Vec F S6 .f32) (a8 : Vec F S6 .f32) (a9 : Vec F S6x16x96x128 .f32) : out0_12 (F := F) a0 a1 a2 a3 a4 a5 a6 a7 a8 a9 = G12 a0 a1 a2 a3 a4 a5 a6 a7 a8 a9 := by
  unfold out0_12
  rw [View.canon_unit_zero hz12]

/-- Cutting the point's block out of `X` and reading `X` through the block's view give the same. -/
theorem cut12_eq (t : Fin cfg0.N) (X : Vec F S2x6x3072x1536 .fp8e4m3) :
    (cfg0.win 12).cut (grid0.coords t) X = ((cfg0.win 12).blk t).view.read (Elt F) X := by
  funext j
  show X j = X (((cfg0.win 12).blk t).view.emb j)
  rw [emb12]

/-- WHAT THE POINT WRITES BACK is its block of `G12` of the argument arrays as the region finds them. -/
theorem flushed12_eq (c : Dev nD) (t : Fin cfg0.N) :
    (dats m 0 c).flushed 12 t = ((cfg0.win 12).blk t).view.read (Elt F) (G12 (V m c main_arg0) (V m c main_arg1) (V m c main_arg2) (V m c main_arg3) (V m c main_arg4) (V m c main_arg5) (V m c main_arg6) (V m c main_arg7) (V m c main_arg8) (V m c main_arg9)) := by
  show (cfg0.win 12).cut (grid0.coords t) ((dats m 0 c).after 12 t) = _
  rw [after0_12, out12_eq, iblk0_eq, iblk1_eq, iblk2_eq, iblk3_eq, iblk4_eq, iblk5_eq, iblk6_eq, iblk7_eq, iblk8_eq, iblk9_eq]
  exact cut12_eq t _

/-- Every index of the array is in the point's block. -/
theorem covered12 (i : S2x6x3072x1536.Idx) :
    ∃ t : Fin cfg0.N, (cfg0.win 12).flush t = true ∧ i ∈ ((cfg0.win 12).blk t).view.set :=
  ⟨(⟨0, by decide⟩ : Fin cfg0.N), flush0_12 _, by have h := ((cfg0.win 12).blk (⟨0, by decide⟩ : Fin cfg0.N)).view.emb_mem_set i; rwa [emb12] at h⟩

/-- THE ARRAY after the run: `G12` of the argument arrays as launched. -/
theorem final12 (c : Dev nD) : (dats m 0 c).arrAt 12 cfg0.N = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((dats m 0 c).arrAt_eq_of_cover 12 (G12 (V m c main_arg0) (V m c main_arg1) (V m c main_arg2) (V m c main_arg3) (V m c main_arg4) (V m c main_arg5) (V m c main_arg6) (V m c main_arg7) (V m c main_arg8) (V m c main_arg9)) (fun t _ => flushed12_eq m c t) covered12).trans (by rw [V_main_arg0, V_main_arg1, V_main_arg2, V_main_arg3, V_main_arg4, V_main_arg5, V_main_arg6, V_main_arg7, V_main_arg8, V_main_arg9])

/-! ### Output window 13: the array after the run -/

/-- What the window's array ends holding: `out0_13` applied to the argument arrays in place of the input blocks (a value that the
    frame states apart, `kK_payN a…`, keeps its loads inside its own definition). -/
abbrev G13 (a0 : Vec F S12x3072x1536 .bf16) (a1 : Vec F S12x1536 .f32) (a2 : Vec F S12x1536 .f32) (a3 : Vec F S1536x64 .fp8e4m3) (a4 : Vec F S64 .f32) (a5 : Vec F S64 .f32) (a6 : Vec F S6 .f32) (a7 : Vec F S6 .f32) (a8 : Vec F S6 .f32) (a9 : Vec F S6x16x96x128 .f32) : Vec F S12x3072 .f32 :=
  k0_pay9 (k0_pay13 a0 a1 a2 a3 a4 a5 a6 a7 a8 a9) (k0_pay14 a0 a1 a2 a3 a4 a5 a6 a7 a8 a9)

/-- The one store through the whole rectangle leaves its payload. -/
theorem out13_eq (a0 : Vec F S12x3072x1536 .bf16) (a1 : Vec F S12x1536 .f32) (a2 : Vec F S12x1536 .f32) (a3 : Vec F S1536x64 .fp8e4m3) (a4 : Vec F S64 .f32) (a5 : Vec F S64 .f32) (a6 : Vec F S6 .f32) (a7 : Vec F S6 .f32) (a8 : Vec F S6 .f32) (a9 : Vec F S6x16x96x128 .f32) : out0_13 (F := F) a0 a1 a2 a3 a4 a5 a6 a7 a8 a9 = G13 a0 a1 a2 a3 a4 a5 a6 a7 a8 a9 := by
  unfold out0_13
  rw [View.canon_unit_zero hz13]

/-- Cutting the point's block out of `X` and reading `X` through the block's view give the same. -/
theorem cut13_eq (t : Fin cfg0.N) (X : Vec F S12x3072 .f32) :
    (cfg0.win 13).cut (grid0.coords t) X = ((cfg0.win 13).blk t).view.read (Elt F) X := by
  funext j
  show X j = X (((cfg0.win 13).blk t).view.emb j)
  rw [emb13]

/-- WHAT THE POINT WRITES BACK is its block of `G13` of the argument arrays as the region finds them. -/
theorem flushed13_eq (c : Dev nD) (t : Fin cfg0.N) :
    (dats m 0 c).flushed 13 t = ((cfg0.win 13).blk t).view.read (Elt F) (G13 (V m c main_arg0) (V m c main_arg1) (V m c main_arg2) (V m c main_arg3) (V m c main_arg4) (V m c main_arg5) (V m c main_arg6) (V m c main_arg7) (V m c main_arg8) (V m c main_arg9)) := by
  show (cfg0.win 13).cut (grid0.coords t) ((dats m 0 c).after 13 t) = _
  rw [after0_13, out13_eq, iblk0_eq, iblk1_eq, iblk2_eq, iblk3_eq, iblk4_eq, iblk5_eq, iblk6_eq, iblk7_eq, iblk8_eq, iblk9_eq]
  exact cut13_eq t _

/-- Every index of the array is in the point's block. -/
theorem covered13 (i : S12x3072.Idx) :
    ∃ t : Fin cfg0.N, (cfg0.win 13).flush t = true ∧ i ∈ ((cfg0.win 13).blk t).view.set :=
  ⟨(⟨0, by decide⟩ : Fin cfg0.N), flush0_13 _, by have h := ((cfg0.win 13).blk (⟨0, by decide⟩ : Fin cfg0.N)).view.emb_mem_set i; rwa [emb13] at h⟩

/-- THE ARRAY after the run: `G13` of the argument arrays as launched. -/
theorem final13 (c : Dev nD) : (dats m 0 c).arrAt 13 cfg0.N = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ((dats m 0 c).arrAt_eq_of_cover 13 (G13 (V m c main_arg0) (V m c main_arg1) (V m c main_arg2) (V m c main_arg3) (V m c main_arg4) (V m c main_arg5) (V m c main_arg6) (V m c main_arg7) (V m c main_arg8) (V m c main_arg9)) (fun t _ => flushed13_eq m c t) covered13).trans (by rw [V_main_arg0, V_main_arg1, V_main_arg2, V_main_arg3, V_main_arg4, V_main_arg5, V_main_arg6, V_main_arg7, V_main_arg8, V_main_arg9])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G10 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_1) = G11 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_2) = G12 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_v0_3) = G13 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(post10 m r h c).trans (final10 m c),
      (post11 m r h c).trans (final11 m c),
      (post12 m r h c).trans (final12 m c),
      (post13 m r h c).trans (final13 m c),
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.RefRun

end
-- ==== Proof.RefRead.lean ====
/- The reference's results read at an index. -/
module

public import proofs.«01_k».proof.Proof.RefRun
public import proofs.«01_k».proof.Proof.Spec

@[expose] public section

set_option maxRecDepth 16384

noncomputable section

namespace Cert.RefRead
open Idealize.ShloMosaic Cert.ReferenceIdeal Cert.ReferenceIdeal.Gen Cert.Row
open scoped BigOperators

/-- A fold of `max` from the bottom is the supremum. -/
theorem fold_max_bot {n : ℕ} (f : Fin n → EReal) : (Finset.univ : Finset (Fin n)).fold max ⊥ f = Finset.univ.sup f := by unfold Finset.sup; with_reducible rfl

theorem ofBits_ninf : Ideal.ofBits .f32 0xFF800000#32 = ⊥ := by
  simp [Ideal.ofBits, Ideal.ieee]

/-- The modulated row. -/
theorem pay4_at (x : Vec Ideal S12x3072x1536 .bf16) (sc sh : Vec Ideal S12x1536 .f32) (r : Fin 12) (s : Fin 3072) (k : Fin 1536) :
    k0_pay4 x sc sh (ix3 r s k) = hrow (xr x r s) (mr sc r) (mr sh r) k := by
  pointwise [k0_pay4]
  unfold hrow cOne
  rw [Ideal.ofBits_one_f32]
  rfl

/-- A row's largest entry. -/
theorem rowmax_at (v : FVec Ideal S12x3072x1536 .f32) (r : Fin 12) (s : Fin 3072) :
    ((multiReduction (F := Ideal) .maximumf [2] S12x3072 v 0xFF800000#32 reduces_S12x3072x1536_S12x3072 (.inl rfl) rfl) (ix2 r s) : EReal)
      = (Finset.univ : Finset (Fin 1536)).sup (fun k => v (ix3 r s k)) := by
  have h : ((multiReduction (F := Ideal) .maximumf [2] S12x3072 v 0xFF800000#32 reduces_S12x3072x1536_S12x3072 (.inl rfl) rfl) (ix2 r s) : EReal)
      = (Finset.univ : Finset (Fin 1536)).fold max (Ideal.ofBits .f32 0xFF800000#32) (fun k => v (ix3 r s k)) := by
    refine (Ideal.multiReduction_maximumf_single v _ reduces_S12x3072x1536_S12x3072 _ _ (ix2 r s)).trans ?_
    refine Finset.fold_congr fun k _ => congrArg v (funext fun a => ?_)
    match a with
    | ⟨0, _⟩ => rfl
    | ⟨1, _⟩ => rfl
    | ⟨2, _⟩ => rfl
  rw [h, ofBits_ninf]
  exact fold_max_bot _

theorem pay5_eq (x : Vec Ideal S12x3072x1536 .bf16) (sc sh : Vec Ideal S12x1536 .f32) :
    k0_pay5 x sc sh = mulf (multiReduction .maximumf [2] S12x3072 (absf (k0_pay4 x sc sh)) 0xFF800000#32
      reduces_S12x3072x1536_S12x3072 (.inl rfl) rfl) (broadcast S12x3072 (Scalar.ofBits .f32 0x3B124925#32)) := by
  delta k0_pay5
  with_reducible rfl

theorem pay6_eq (x : Vec Ideal S12x3072x1536 .bf16) (sc sh : Vec Ideal S12x1536 .f32) :
    k0_pay6 x sc sh = ori (cmpf .olt (k0_pay5 x sc sh) (broadcast S12x3072 (Scalar.ofBits .f32 0x00800000#32)))
      (cmpf .oeq (k0_pay5 x sc sh) (broadcast S12x3072 (Scalar.ofBits .f32 0x7F800000#32))) := by
  delta k0_pay6
  with_reducible rfl

theorem pay7_eq (x : Vec Ideal S12x3072x1536 .bf16) (sc sh : Vec Ideal S12x1536 .f32) :
    k0_pay7 x sc sh = floor (divf (log (k0_pay5 x sc sh)) (log (broadcast S12x3072 (Scalar.ofBits .f32 0x40000000#32)))) := by
  delta k0_pay7
  with_reducible rfl

theorem mulc (M : FVec Ideal S12x3072 .f32) (j : S12x3072.Idx) :
    (mulf M (broadcast S12x3072 (Scalar.ofBits .f32 0x3B124925#32)) j : EReal) = (M j : EReal) * cInv := rfl

theorem abs_at (H : FVec Ideal S12x3072x1536 .f32) (r : Fin 12) (s : Fin 3072) (g : Fin 1536 → EReal)
    (h : ∀ k, (H (ix3 r s k) : EReal) = g k) :
    (Finset.univ : Finset (Fin 1536)).sup (fun k => (absf H (ix3 r s k) : EReal)) = amax g := by
  unfold amax
  refine Finset.sup_congr rfl fun k _ => ?_
  rw [← h k]
  rfl

/-- The scaled largest magnitude of a row. -/
theorem pay5_at (x : Vec Ideal S12x3072x1536 .bf16) (sc sh : Vec Ideal S12x1536 .f32) (r : Fin 12) (s : Fin 3072) :
    (k0_pay5 (F := Ideal) x sc sh (ix2 r s) : EReal) = amax (hrow (xr x r s) (mr sc r) (mr sh r)) * cInv :=
  (congrFun (pay5_eq x sc sh) (ix2 r s)).trans ((mulc _ _).trans (congrArg (· * cInv)
    ((rowmax_at _ r s).trans (abs_at _ r s _ (pay4_at x sc sh r s)))))

theorem e_of (y : FVec Ideal S12x3072 .f32) (r : Fin 12) (s : Fin 3072) :
    k0_pay8 (ori (cmpf .olt y (broadcast S12x3072 (Scalar.ofBits .f32 0x00800000#32)))
        (cmpf .oeq y (broadcast S12x3072 (Scalar.ofBits .f32 0x7F800000#32))))
      (floor (divf (log y) (log (broadcast S12x3072 (Scalar.ofBits .f32 0x40000000#32))))) (ix2 r s) = rexp (y (ix2 r s)) := by
  generalize hz : y (ix2 r s) = z
  simp only [k0_pay8, select, ori, cmpf, broadcast, floor, divf, log, addf, hz]
  unfold rexp
  rfl

/-- A row's exponent. -/
theorem e_at (x : Vec Ideal S12x3072x1536 .bf16) (sc sh : Vec Ideal S12x1536 .f32) (r : Fin 12) (s : Fin 3072) :
    k0_pay8 (k0_pay6 x sc sh) (k0_pay7 x sc sh) (ix2 r s) = rexp (amax (hrow (xr x r s) (mr sc r) (mr sh r)) * cInv) := by
  rw [← pay5_at, pay6_eq, pay7_eq]
  exact e_of _ r s

section
variable (h : Vec Ideal S12x3072x1536 .f32) (m : IVec S12x3072 1) (f : Vec Ideal S12x3072 .f32)

theorem pay9_at (r : Fin 12) (s : Fin 3072) :
    (k0_pay9 (F := Ideal) m f (ix2 r s) : EReal) = Ideal.exp2 (k0_pay8 (F := Ideal) m f (ix2 r s)) := by
  pointwise [k0_pay9]
  rfl

theorem pay10_at (r : Fin 12) (s : Fin 3072) (k : Fin 1536) :
    (k0_pay10 (F := Ideal) h m f (ix3 r s k) : EReal) = code (h (ix3 r s k)) (Ideal.exp2 (-(k0_pay8 (F := Ideal) m f (ix2 r s)))) := by
  generalize hz : k0_pay8 (F := Ideal) m f = z
  pointwise [k0_pay10]
  rw [hz, show (0 : EReal) - z (ix2 r s) = -(z (ix2 r s) : EReal) from by rw [sub_eq_add_neg, zero_add]]
  rfl

/-- The product, scaled back and biased. -/
def py (W : Vec Ideal S1536x64 .fp8e4m3) (ws bo : Vec Ideal S64 .f32) (r : Fin 12) (s : Fin 3072) (o : Fin 64) : EReal :=
  (∑ k : Fin 1536, (k0_pay10 (F := Ideal) h m f (ix3 r s k) : EReal) * W (ix2 k o)) * k0_pay9 (F := Ideal) m f (ix2 r s) * ws (ix1 o) + bo (ix1 o)

theorem pay11_at (W : Vec Ideal S1536x64 .fp8e4m3) (ws bo : Vec Ideal S64 .f32) (g : Vec Ideal S6 .f32)
    (b : Fin 6) (c : Fin 16) (R : Fin 96) (L : Fin 128) :
    (k0_pay11 (F := Ideal) h m f W ws bo g (ix4 b c R L) : EReal)
      = mix (g (ix1 b)) (py h m f W ws bo (lo b) (tok R L) (feat c R L)) (py h m f W ws bo (hi b) (tok R L) (feat c R L)) := by
  pointwise [k0_pay11]
  have e1 : (⟨6 + b.val, by omega⟩ : Fin 12) = hi b := Fin.ext (by show 6 + b.val = b.val + 6; omega)
  have e2 : (⟨R.val % 2 * 32 + L.val % 2 * 16 + c.val, by omega⟩ : Fin 64) = feat c R L :=
    Fin.ext (by show R.val % 2 * 32 + L.val % 2 * 16 + c.val = (R.val % 2 * 2 + L.val % 2) * 16 + c.val; omega)
  simp only [e1, e2]
  rfl
end

section
variable (a0 : Vec Ideal S12x3072x1536 .bf16) (a1 a2 : Vec Ideal S12x1536 .f32) (a3 : Vec Ideal S1536x64 .fp8e4m3)
  (a4 a5 : Vec Ideal S64 .f32) (a6 a7 a8 : Vec Ideal S6 .f32) (a9 : Vec Ideal S6x16x96x128 .f32)

theorem hz2 : (![0, 0] : Fin 2 → Nat) = fun _ => 0 := funext fun a => by fin_cases a <;> rfl
theorem hz3 : (![0, 0, 0] : Fin 3 → Nat) = fun _ => 0 := funext fun a => by fin_cases a <;> rfl
theorem hz1 : (![0] : Fin 1 → Nat) = fun _ => 0 := funext fun a => by fin_cases a <;> rfl

theorem pay12_eq : k0_pay12 (F := Ideal) a0 a1 a2 a3 a4 a5 a6 a7 a8 a9 = k0_pay4 a0 a2 a1 := by
  delta k0_pay12
  rw [View.ld_unit_zero hz3, View.ld_unit_zero hz2, View.ld_unit_zero hz2]

theorem pay13_eq : k0_pay13 (F := Ideal) a0 a1 a2 a3 a4 a5 a6 a7 a8 a9 = k0_pay6 a0 a2 a1 := by
  delta k0_pay13
  rw [View.ld_unit_zero hz3, View.ld_unit_zero hz2, View.ld_unit_zero hz2]

theorem pay14_eq : k0_pay14 (F := Ideal) a0 a1 a2 a3 a4 a5 a6 a7 a8 a9 = k0_pay7 a0 a2 a1 := by
  delta k0_pay14
  rw [View.ld_unit_zero hz3, View.ld_unit_zero hz2, View.ld_unit_zero hz2]

theorem pay15_eq : k0_pay15 (F := Ideal) a0 a1 a2 a3 a4 a5 a6 a7 a8 a9
    = k0_pay11 (k0_pay4 a0 a2 a1) (k0_pay6 a0 a2 a1) (k0_pay7 a0 a2 a1) a3 a4 a5 a6 := by
  delta k0_pay15
  rw [pay12_eq, pay13_eq, pay14_eq, View.ld_unit_zero hz2, View.ld_unit_zero hz1, View.ld_unit_zero hz1, View.ld_unit_zero hz1]

/-- The reference's scales. -/
theorem G13_at (r : Fin 12) (s : Fin 3072) :
    (RefRun.G13 (F := Ideal) a0 a1 a2 a3 a4 a5 a6 a7 a8 a9 (ix2 r s) : EReal) = sXs rscale a0 a1 a2 r s := by
  show (k0_pay9 (F := Ideal) (k0_pay13 a0 a1 a2 a3 a4 a5 a6 a7 a8 a9) (k0_pay14 a0 a1 a2 a3 a4 a5 a6 a7 a8 a9) (ix2 r s) : EReal) = _
  rw [pay13_eq, pay14_eq, pay9_at, e_at]
  rfl

/-- The reference's codes. -/
theorem codes_at (r : Fin 12) (s : Fin 3072) (k : Fin 1536) :
    (k0_pay10 (F := Ideal) (k0_pay4 a0 a2 a1) (k0_pay6 a0 a2 a1) (k0_pay7 a0 a2 a1) (ix3 r s k) : EReal) = sCd rinv a0 a1 a2 r s k := by
  rw [pay10_at, pay4_at, e_at]
  rfl

/-- The row holding half `h` of batch row `b`. -/
def half (h : Fin 2) (b : Fin 6) : Fin 12 := ⟨h.val * 6 + b.val, by omega⟩

theorem G12_at (h : Fin 2) (b : Fin 6) (s : Fin 3072) (k : Fin 1536) :
    (RefRun.G12 (F := Ideal) a0 a1 a2 a3 a4 a5 a6 a7 a8 a9 (ix4 h b s k) : EReal) = sCd rinv a0 a1 a2 (half h b) s k := by
  show (k0_pay3 (F := Ideal) (k0_pay10 (k0_pay12 a0 a1 a2 a3 a4 a5 a6 a7 a8 a9) (k0_pay13 a0 a1 a2 a3 a4 a5 a6 a7 a8 a9)
    (k0_pay14 a0 a1 a2 a3 a4 a5 a6 a7 a8 a9)) (ix4 h b s k) : EReal) = _
  rw [pay12_eq, pay13_eq, pay14_eq, ← codes_at]
  generalize k0_pay10 (F := Ideal) (k0_pay4 a0 a2 a1) (k0_pay6 a0 a2 a1) (k0_pay7 a0 a2 a1) = C
  pointwise [k0_pay3]
  rfl

/-- The reference's image. -/
theorem img_at (b : Fin 6) (c : Fin 16) (R : Fin 96) (L : Fin 128) :
    (k0_pay15 (F := Ideal) a0 a1 a2 a3 a4 a5 a6 a7 a8 a9 (ix4 b c R L) : EReal) = sImg rscale rinv a0 a1 a2 a3 a4 a5 a6 b c R L := by
  rw [pay15_eq, pay11_at]
  unfold py
  simp only [codes_at, pay9_at, e_at]
  rfl

theorem G11_at (b : Fin 6) (c : Fin 16) (R : Fin 96) (L : Fin 128) :
    (RefRun.G11 (F := Ideal) a0 a1 a2 a3 a4 a5 a6 a7 a8 a9 (ix4 b c R L) : EReal) = sImg rscale rinv a0 a1 a2 a3 a4 a5 a6 b c R L := by
  rw [← img_at]
  rfl

theorem G10_at (b : Fin 6) (c : Fin 16) (R : Fin 96) (L : Fin 128) :
    (RefRun.G10 (F := Ideal) a0 a1 a2 a3 a4 a5 a6 a7 a8 a9 (ix4 b c R L) : EReal) = sLat rscale rinv a0 a1 a2 a3 a4 a5 a6 a7 a8 a9 b c R L := by
  show (k0_pay1 (F := Ideal) (k0_pay15 a0 a1 a2 a3 a4 a5 a6 a7 a8 a9) a9 a8 a7 (ix4 b c R L) : EReal) = _
  unfold sLat
  rw [← img_at a0 a1 a2 a3 a4 a5 a6 a7 a8 a9]
  generalize k0_pay15 (F := Ideal) a0 a1 a2 a3 a4 a5 a6 a7 a8 a9 = C
  pointwise [k0_pay1]
end

end Cert.RefRead

end
-- ==== Proof.Alg.lean ====
/- The kernel and the reference over the reals: equal results wherever the modulation is finite. -/
module

public import proofs.«01_k».proof.Defs
public import proofs.«01_k».proof.Proof.KArr
public import proofs.«01_k».proof.Proof.RefRead

@[expose] public section

set_option maxRecDepth 16384

noncomputable section

namespace Cert.Alg
open Idealize.ShloMosaic Idealize.ShloMosaic.TcCoe Cert.Row Cert.KArr

instance pre_facts : Cert.Pre_modulation_is_finite.Facts := ⟨by decide⟩

theorem two_bits (p q : Prop) [Decidable p] [Decidable q]
    (h : BitVec.ofBool (decide p) &&& BitVec.ofBool (decide q) = 1#1) : p ∧ q := by
  by_cases hp : p <;> by_cases hq : q <;> simp_all

section
variable (x0 : Vec Ideal ⟨3, ![12, 3072, 1536]⟩ .bf16) (x1 x2 : Vec Ideal ⟨2, ![12, 1536]⟩ .f32) (x3 : Vec Ideal ⟨2, ![1536, 64]⟩ .fp8e4m3)
variable (x4 x5 : Vec Ideal ⟨1, ![64]⟩ .f32) (x6 x7 x8 : Vec Ideal ⟨1, ![6]⟩ .f32) (x9 : Vec Ideal ⟨4, ![6, 16, 96, 128]⟩ .f32)

/-- What the precondition says of the modulation. -/
theorem pre_at (h : Cert.Pre_modulation_is_finite.fn (F := Ideal) x0 x1 x2 x3 x4 x5 x6 x7 x8 x9 = fun _ => 1#1) (r : Fin 12) (k : Fin 1536) :
    max (mr x1 r k) (-(mr x1 r k)) ≤ cMax ∧ max (mr x2 r k) (-(mr x2 r k)) ≤ cMax :=
  two_bits _ _ (congrFun h (ix2 r k))

variable (h1 : ∀ r k, max (mr x1 r k) (-(mr x1 r k)) ≤ cMax) (h2 : ∀ r k, max (mr x2 r k) (-(mr x2 r k)) ≤ cMax)
include h1 h2

theorem sXs_eq (r : Fin 12) (s : Fin 3072) : sXs kscale x0 x1 x2 r s = sXs rscale x0 x1 x2 r s :=
  (row_agree (xr x0 r s) (mr x2 r) (mr x1 r) (h2 r) (h1 r)).1

theorem sCd_eq (r : Fin 12) (s : Fin 3072) (k : Fin 1536) : sCd kinv x0 x1 x2 r s k = sCd rinv x0 x1 x2 r s k :=
  congrArg (code (hrow (xr x0 r s) (mr x2 r) (mr x1 r) k)) (row_agree (xr x0 r s) (mr x2 r) (mr x1 r) (h2 r) (h1 r)).2

theorem sY_eq (r : Fin 12) (s : Fin 3072) (o : Fin 64) :
    sY kscale kinv x0 x1 x2 x3 x4 x5 r s o = sY rscale rinv x0 x1 x2 x3 x4 x5 r s o := by
  have e := row_agree (xr x0 r s) (mr x2 r) (mr x1 r) (h2 r) (h1 r)
  unfold sY yrow crow
  rw [e.1, e.2]
  rfl

theorem sImg_eq (b : Fin 6) (c : Fin 16) (R : Fin 96) (L : Fin 128) :
    sImg kscale kinv x0 x1 x2 x3 x4 x5 x6 b c R L = sImg rscale rinv x0 x1 x2 x3 x4 x5 x6 b c R L := by
  unfold sImg sV
  rw [sY_eq x0 x1 x2 x3 x4 x5 h1 h2, sY_eq x0 x1 x2 x3 x4 x5 h1 h2]

theorem sLat_eq (b : Fin 6) (c : Fin 16) (R : Fin 96) (L : Fin 128) :
    sLat kscale kinv x0 x1 x2 x3 x4 x5 x6 x7 x8 x9 b c R L = sLat rscale rinv x0 x1 x2 x3 x4 x5 x6 x7 x8 x9 b c R L := by
  unfold sLat
  rw [sImg_eq x0 x1 x2 x3 x4 x5 x6 h1 h2]

theorem g10 : R10 kscale kinv x0 x1 x2 x3 x4 x5 x6 x7 x8 x9 = Cert.RefRun.G10 (F := Ideal) x0 x1 x2 x3 x4 x5 x6 x7 x8 x9 := by
  funext (y : (⟨4, ![6, 16, 96, 128]⟩ : Shape).Idx)
  obtain ⟨b, c, R, L, rfl⟩ : ∃ (b : Fin 6) (c : Fin 16) (R : Fin 96) (L : Fin 128), y = ix4 b c R L := ⟨y 0, y 1, y 2, y 3, eq_ix4 y⟩
  exact (sLat_eq x0 x1 x2 x3 x4 x5 x6 x7 x8 x9 h1 h2 b c R L).trans (Cert.RefRead.G10_at x0 x1 x2 x3 x4 x5 x6 x7 x8 x9 b c R L).symm

theorem g11 : R11 kscale kinv x0 x1 x2 x3 x4 x5 x6 = Cert.RefRun.G11 (F := Ideal) x0 x1 x2 x3 x4 x5 x6 x7 x8 x9 := by
  funext (y : (⟨4, ![6, 16, 96, 128]⟩ : Shape).Idx)
  obtain ⟨b, c, R, L, rfl⟩ : ∃ (b : Fin 6) (c : Fin 16) (R : Fin 96) (L : Fin 128), y = ix4 b c R L := ⟨y 0, y 1, y 2, y 3, eq_ix4 y⟩
  exact (sImg_eq x0 x1 x2 x3 x4 x5 x6 h1 h2 b c R L).trans (Cert.RefRead.G11_at x0 x1 x2 x3 x4 x5 x6 x7 x8 x9 b c R L).symm

theorem g12 : R12 kinv x0 x1 x2 = Cert.RefRun.G12 (F := Ideal) x0 x1 x2 x3 x4 x5 x6 x7 x8 x9 := by
  funext (y : (⟨4, ![2, 6, 3072, 1536]⟩ : Shape).Idx)
  obtain ⟨h, b, s, k, rfl⟩ : ∃ (h : Fin 2) (b : Fin 6) (s : Fin 3072) (k : Fin 1536), y = ix4 h b s k := ⟨y 0, y 1, y 2, y 3, eq_ix4 y⟩
  exact (sCd_eq x0 x1 x2 h1 h2 (Cert.RefRead.half h b) s k).trans (Cert.RefRead.G12_at x0 x1 x2 x3 x4 x5 x6 x7 x8 x9 h b s k).symm

theorem g13 : R13 kscale x0 x1 x2 = Cert.RefRun.G13 (F := Ideal) x0 x1 x2 x3 x4 x5 x6 x7 x8 x9 := by
  funext (y : (⟨2, ![12, 3072]⟩ : Shape).Idx)
  obtain ⟨r, s, rfl⟩ : ∃ (r : Fin 12) (s : Fin 3072), y = ix2 r s := ⟨y 0, y 1, eq_ix2 y⟩
  exact (sXs_eq x0 x1 x2 h1 h2 r s).trans (Cert.RefRead.G13_at x0 x1 x2 x3 x4 x5 x6 x7 x8 x9 r s).symm
end

/-- The claim of equal results. -/
theorem algebraic : @Cert.algebraic_KernelIdeal_ReferenceIdeal_pre_modulation_is_finite Cert.KernelIdeal.Gen.facts Cert.ReferenceIdeal.Gen.facts pre_facts := by
  intro m g m' g' hp hm
  refine ⟨fun c => R10 kscale kinv (a0 m c) (a1 m c) (a2 m c) (a3 m c) (a4 m c) (a5 m c) (a6 m c) (a7 m c) (a8 m c) (a9 m c),
    fun c => R11 kscale kinv (a0 m c) (a1 m c) (a2 m c) (a3 m c) (a4 m c) (a5 m c) (a6 m c),
    fun c => R12 kinv (a0 m c) (a1 m c) (a2 m c), fun c => R13 kscale (a0 m c) (a1 m c) (a2 m c), ?_, ?_⟩
  · exact (θ_run _ _ _).mono (fun r h c => ⟨post10 m c r h.1, post11 m c r h.1, post12 m c r h.1, post13 m c r h.1,
      Cert.KVal.kept m r h.1 c⟩) (Cert.KVal.run_main m g)
  · refine (θ_run _ _ _).mono (fun r h c => ?_) (Cert.RefRun.run (F := Ideal) m' g')
    obtain ⟨e10, e11, e12, e13, hk⟩ := h c
    obtain ⟨q0, q1, q2, q3, q4, q5, q6, q7, q8, q9⟩ := hm c
    have hpc := pre_at _ _ _ _ _ _ _ _ _ _ (hp c)
    have h1 := fun r k => (hpc r k).1
    have h2 := fun r k => (hpc r k).2
    refine ⟨e10.trans ?_, e11.trans ?_, e12.trans ?_, e13.trans ?_, hk⟩
    · rw [q0, q1, q2, q3, q4, q5, q6, q7, q8, q9]
      exact (g10 _ _ _ _ _ _ _ _ _ _ h1 h2).symm
    · rw [q0, q1, q2, q3, q4, q5, q6, q7, q8, q9]
      exact (g11 _ _ _ _ _ _ _ _ _ _ h1 h2).symm
    · rw [q0, q1, q2, q3, q4, q5, q6, q7, q8, q9]
      exact (g12 _ _ _ _ _ _ _ _ _ _ h1 h2).symm
    · rw [q0, q1, q2, q3, q4, q5, q6, q7, q8, q9]
      exact (g13 _ _ _ _ _ _ _ _ _ _ h1 h2).symm

end Cert.Alg

end
-- ==== Proof.lean ====
module

public import proofs.«01_k».proof.Defs
public import proofs.«01_k».proof.Proof.KFrame
public import proofs.«01_k».proof.Proof.KVal
public import proofs.«01_k».proof.Proof.Alg
public import proofs.«01_k».proof.Proof.Gen.ReferenceIdeal.Frame

@[expose] public section

noncomputable section

namespace Cert.Proof

theorem claim : Cert.Claim := ⟨Cert.Kernel.Gen.facts, Cert.KernelIdeal.Gen.facts, Cert.ReferenceIdeal.Gen.facts, Cert.Alg.pre_facts,
  fun m ρ _ => Cert.Kernel.Gen.frame m ρ, fun m ρ _ => Cert.KVal.frame m ρ, fun m ρ _ => Cert.KVal.frame m ρ,
  fun m ρ _ => Cert.ReferenceIdeal.Gen.frame m ρ, fun m ρ _ => Cert.ReferenceIdeal.Gen.frame m ρ, trivial, Cert.Alg.algebraic⟩

end Cert.Proof

end
